-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 256]⟩ ⟨2, ![256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S64x256 : Shape := ⟨2, ![64, 256]⟩
abbrev S256x256 : Shape := ⟨2, ![256, 256]⟩
abbrev S256x2 : Shape := ⟨2, ![256, 2]⟩
abbrev S3x64x256 : Shape := ⟨3, ![3, 64, 256]⟩
abbrev S3 : Shape := ⟨1, ![3]⟩
abbrev S_ : Shape := ⟨0, ![]⟩
abbrev S64x128 : Shape := ⟨2, ![64, 128]⟩
abbrev S64x2 : Shape := ⟨2, ![64, 2]⟩
abbrev S1x128x256 : Shape := ⟨3, ![1, 128, 256]⟩
abbrev S128x256 : Shape := ⟨2, ![128, 256]⟩
abbrev S64x1 : Shape := ⟨2, ![64, 1]⟩
abbrev S1 : Shape := ⟨1, ![1]⟩
abbrev S1x64x256 : Shape := ⟨3, ![1, 64, 256]⟩

abbrev nBuf : Space → Nat
  | .hbm => 5
  | .vmem => 8
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x1, .i32⟩
  | .hbm, ⟨3, _⟩ => ⟨S2x128x256, .bf16⟩
  | .hbm, ⟨4, _⟩ => ⟨S64x256, .f32⟩
  | .local _ .vmem, ⟨0, _⟩ => ⟨S256x128, .bf16⟩
  | .local _ .vmem, ⟨1, _⟩ => ⟨S128x8, .bf16⟩
  | .local _ .vmem, ⟨2, _⟩ => ⟨S256x1, .i32⟩
  | .local _ .vmem, ⟨3, _⟩ => ⟨S2x128x256, .bf16⟩
  | .local _ .vmem, ⟨4, _⟩ => ⟨S64x256, .f32⟩
  | .local _ .vmem, ⟨5, _⟩ => ⟨S256x256, .bf16⟩
  | .local _ .vmem, ⟨6, _⟩ => ⟨S256x2, .bf16⟩
  | .local _ .vmem, ⟨7, _⟩ => ⟨S3x64x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : BitVec 32 := Scalar.addi v2 c2_i32_32
  let c4_i32_33 : BitVec 32 := 4#32
  let c0_i32_34 : BitVec 32 := 0#32
  let v69 : BitVec 1 := Scalar.cmpi .eq c4_i32_33 c0_i32_34
  let c1_i32_35 : BitVec 32 := 1#32
  let v70 : BitVec 32 := Scalar.select v69 c1_i32_35 c4_i32_33
  let v71 : BitVec 32 := Scalar.remsi v68 v70
  let c0_i32_37 : BitVec 32 := 0#32
  let v73 : BitVec 1 := Scalar.cmpi .slt v71 c0_i32_37
  let c0_i32_38 : BitVec 32 := 0#32
  let v74 : BitVec 1 := Scalar.cmpi .slt v70 c0_i32_38
  let v75 : BitVec 1 := Scalar.xori v73 v74
  let c0_i32_36 : BitVec 32 := 0#32
  let v72 : BitVec 1 := Scalar.cmpi .ne v71 c0_i32_36
  let v76 : BitVec 1 := Scalar.andi v75 v72
  let v77 : BitVec 32 := Scalar.addi v71 v70
  let v78 : BitVec 32 := Scalar.select v76 v77 v71
  let c64_i32 : BitVec 32 := 64#32
  let v79 : BitVec 32 := Scalar.muli v78 c64_i32
  let v80 : Index := Scalar.indexCast v79
  let c0_39 : Index := 0#32
  ![v80.toNat, 0]
def k0_off2 (d0 : Dev nD) (c2_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : BitVec 32 := Scalar.addi v2 c2_i32_32
  let c4_i32_33 : BitVec 32 := 4#32
  let c0_i32_34 : BitVec 32 := 0#32
  let v69 : BitVec 1 := Scalar.cmpi .eq c4_i32_33 c0_i32_34
  let c1_i32_35 : BitVec 32 := 1#32
  let v70 : BitVec 32 := Scalar.select v69 c1_i32_35 c4_i32_33
  let v71 : BitVec 32 := Scalar.remsi v68 v70
  let c0_i32_37 : BitVec 32 := 0#32
  let v73 : BitVec 1 := Scalar.cmpi .slt v71 c0_i32_37
  let c0_i32_38 : BitVec 32 := 0#32
  let v74 : BitVec 1 := Scalar.cmpi .slt v70 c0_i32_38
  let v75 : BitVec 1 := Scalar.xori v73 v74
  let c0_i32_36 : BitVec 32 := 0#32
  let v72 : BitVec 1 := Scalar.cmpi .ne v71 c0_i32_36
  let v76 : BitVec 1 := Scalar.andi v75 v72
  let v77 : BitVec 32 := Scalar.addi v71 v70
  let v78 : BitVec 32 := Scalar.select v76 v77 v71
  let c64_i32 : BitVec 32 := 64#32
  let v79 : BitVec 32 := Scalar.muli v78 c64_i32
  let v83 : Index := Scalar.indexCast v79
  let c0_40 : Index := 0#32
  ![v83.toNat, 0]
def k0_off3 (d0 : Dev nD) (c2_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : BitVec 32 := Scalar.addi v2 c2_i32_32
  let c4_i32_33 : BitVec 32 := 4#32
  let c0_i32_34 : BitVec 32 := 0#32
  let v69 : BitVec 1 := Scalar.cmpi .eq c4_i32_33 c0_i32_34
  let c1_i32_35 : BitVec 32 := 1#32
  let v70 : BitVec 32 := Scalar.select v69 c1_i32_35 c4_i32_33
  let v71 : BitVec 32 := Scalar.remsi v68 v70
  let c0_i32_37 : BitVec 32 := 0#32
  let v73 : BitVec 1 := Scalar.cmpi .slt v71 c0_i32_37
  let c0_i32_38 : BitVec 32 := 0#32
  let v74 : BitVec 1 := Scalar.cmpi .slt v70 c0_i32_38
  let v75 : BitVec 1 := Scalar.xori v73 v74
  let c0_i32_36 : BitVec 32 := 0#32
  let v72 : BitVec 1 := Scalar.cmpi .ne v71 c0_i32_36
  let v76 : BitVec 1 := Scalar.andi v75 v72
  let v77 : BitVec 32 := Scalar.addi v71 v70
  let v78 : BitVec 32 := Scalar.select v76 v77 v71
  let c64_i32_49 : BitVec 32 := 64#32
  let v101 : BitVec 32 := Scalar.muli v78 c64_i32_49
  let v102 : Index := Scalar.indexCast v101
  let c0_50 : Index := 0#32
  ![v102.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_93 : BitVec 32 := 64#32
  let v182 : BitVec 32 := Scalar.muli v2 c64_i32_93
  let v183 : Index := Scalar.indexCast v182
  let c0_94 : Index := 0#32
  ![v183.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_93 : BitVec 32 := 64#32
  let v182 : BitVec 32 := Scalar.muli v2 c64_i32_93
  let v186 : Index := Scalar.indexCast v182
  let c0_95 : Index := 0#32
  ![v186.toNat, 0]
def k0_off6 (d0 : Dev nD) (c2_i32_106 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v203 : BitVec 32 := Scalar.addi v2 c2_i32_106
  let c4_i32_107 : BitVec 32 := 4#32
  let c0_i32_108 : BitVec 32 := 0#32
  let v204 : BitVec 1 := Scalar.cmpi .eq c4_i32_107 c0_i32_108
  let c1_i32_109 : BitVec 32 := 1#32
  let v205 : BitVec 32 := Scalar.select v204 c1_i32_109 c4_i32_107
  let v206 : BitVec 32 := Scalar.remsi v203 v205
  let c0_i32_111 : BitVec 32 := 0#32
  let v208 : BitVec 1 := Scalar.cmpi .slt v206 c0_i32_111
  let c0_i32_112 : BitVec 32 := 0#32
  let v209 : BitVec 1 := Scalar.cmpi .slt v205 c0_i32_112
  let v210 : BitVec 1 := Scalar.xori v208 v209
  let c0_i32_110 : BitVec 32 := 0#32
  let v207 : BitVec 1 := Scalar.cmpi .ne v206 c0_i32_110
  let v211 : BitVec 1 := Scalar.andi v210 v207
  let v212 : BitVec 32 := Scalar.addi v206 v205
  let v213 : BitVec 32 := Scalar.select v211 v212 v206
  let c64_i32_113 : BitVec 32 := 64#32
  let v214 : BitVec 32 := Scalar.muli v213 c64_i32_113
  let c0_i32_121 : BitVec 32 := 0#32
  ![v214.toNat, 0]
def k0_dev4 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_106 : BitVec 32 := 2#32
  let v203 : BitVec 32 := Scalar.addi v2 c2_i32_106
  let c4_i32_107 : BitVec 32 := 4#32
  let c0_i32_108 : BitVec 32 := 0#32
  let v204 : BitVec 1 := Scalar.cmpi .eq c4_i32_107 c0_i32_108
  let c1_i32_109 : BitVec 32 := 1#32
  let v205 : BitVec 32 := Scalar.select v204 c1_i32_109 c4_i32_107
  let v206 : BitVec 32 := Scalar.remsi v203 v205
  let c0_i32_111 : BitVec 32 := 0#32
  let v208 : BitVec 1 := Scalar.cmpi .slt v206 c0_i32_111
  let c0_i32_112 : BitVec 32 := 0#32
  let v209 : BitVec 1 := Scalar.cmpi .slt v205 c0_i32_112
  let v210 : BitVec 1 := Scalar.xori v208 v209
  let c0_i32_110 : BitVec 32 := 0#32
  let v207 : BitVec 1 := Scalar.cmpi .ne v206 c0_i32_110
  let v211 : BitVec 1 := Scalar.andi v210 v207
  let v212 : BitVec 32 := Scalar.addi v206 v205
  let v213 : BitVec 32 := Scalar.select v211 v212 v206
  let c1_i32_117 : BitVec 32 := 1#32
  let v215 : BitVec 32 := Scalar.muli v213 c1_i32_117
  let v216 : BitVec 32 := Scalar.addi c0_i32_118 v215
  v216.toNat
def k0_dev5 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_122 : BitVec 32 := 1#32
  let v224 : BitVec 32 := Scalar.addi v2 c1_i32_122
  let c4_i32_123 : BitVec 32 := 4#32
  let c0_i32_124 : BitVec 32 := 0#32
  let v225 : BitVec 1 := Scalar.cmpi .eq c4_i32_123 c0_i32_124
  let c1_i32_125 : BitVec 32 := 1#32
  let v226 : BitVec 32 := Scalar.select v225 c1_i32_125 c4_i32_123
  let v227 : BitVec 32 := Scalar.remsi v224 v226
  let c0_i32_127 : BitVec 32 := 0#32
  let v229 : BitVec 1 := Scalar.cmpi .slt v227 c0_i32_127
  let c0_i32_128 : BitVec 32 := 0#32
  let v230 : BitVec 1 := Scalar.cmpi .slt v226 c0_i32_128
  let v231 : BitVec 1 := Scalar.xori v229 v230
  let c0_i32_126 : BitVec 32 := 0#32
  let v228 : BitVec 1 := Scalar.cmpi .ne v227 c0_i32_126
  let v232 : BitVec 1 := Scalar.andi v231 v228
  let v233 : BitVec 32 := Scalar.addi v227 v226
  let v234 : BitVec 32 := Scalar.select v232 v233 v227
  let c1_i32_133 : BitVec 32 := 1#32
  let v236 : BitVec 32 := Scalar.muli v234 c1_i32_133
  let v237 : BitVec 32 := Scalar.addi c0_i32_134 v236
  v237.toNat
def k0_dev6 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_138 : BitVec 32 := 3#32
  let v245 : BitVec 32 := Scalar.addi v2 c3_i32_138
  let c4_i32_139 : BitVec 32 := 4#32
  let c0_i32_140 : BitVec 32 := 0#32
  let v246 : BitVec 1 := Scalar.cmpi .eq c4_i32_139 c0_i32_140
  let c1_i32_141 : BitVec 32 := 1#32
  let v247 : BitVec 32 := Scalar.select v246 c1_i32_141 c4_i32_139
  let v248 : BitVec 32 := Scalar.remsi v245 v247
  let c0_i32_143 : BitVec 32 := 0#32
  let v250 : BitVec 1 := Scalar.cmpi .slt v248 c0_i32_143
  let c0_i32_144 : BitVec 32 := 0#32
  let v251 : BitVec 1 := Scalar.cmpi .slt v247 c0_i32_144
  let v252 : BitVec 1 := Scalar.xori v250 v251
  let c0_i32_142 : BitVec 32 := 0#32
  let v249 : BitVec 1 := Scalar.cmpi .ne v248 c0_i32_142
  let v253 : BitVec 1 := Scalar.andi v252 v249
  let v254 : BitVec 32 := Scalar.addi v248 v247
  let v255 : BitVec 32 := Scalar.select v253 v254 v248
  let c1_i32_149 : BitVec 32 := 1#32
  let v257 : BitVec 32 := Scalar.muli v255 c1_i32_149
  let v258 : BitVec 32 := Scalar.addi c0_i32_150 v257
  v258.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S256 : Shape := ⟨1, ![256]⟩
abbrev S1x256 : Shape := ⟨2, ![1, 256]⟩
abbrev S256x256 : Shape := ⟨2, ![256, 256]⟩
abbrev S_ : Shape := ⟨0, ![]⟩
abbrev S256x128x256 : Shape := ⟨3, ![256, 128, 256]⟩

abbrev nBuf : Space → Nat
  | .hbm => 42
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x1, .i32⟩
  | .hbm, ⟨3, _⟩ => ⟨S8x128x256, .bf16⟩
  | .hbm, ⟨4, _⟩ => ⟨S256, .i32⟩
  | .hbm, ⟨5, _⟩ => ⟨S256, .i32⟩
  | .hbm, ⟨6, _⟩ => ⟨S1x256, .i32⟩
  | .hbm, ⟨7, _⟩ => ⟨S256x1, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S1x256, .i32⟩
  | .hbm, ⟨12, _⟩ => ⟨S256x1, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .i1⟩
  | .hbm, ⟨17, _⟩ => ⟨S256x256, .i32⟩
  | .hbm, ⟨18, _⟩ => ⟨S_, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S256, .i1⟩
  | .hbm, ⟨31, _⟩ => ⟨S8x128x256, .f32⟩
  | .hbm, ⟨32, _⟩ => ⟨S256x1, .i32⟩
  | .hbm, ⟨33, _⟩ => ⟨S256x128x256, .f32⟩
  | .hbm, ⟨34, _⟩ => ⟨S256x128, .f32⟩
  | .hbm, ⟨35, _⟩ => ⟨S256x256, .f32⟩
  | .hbm, ⟨36, _⟩ => ⟨S256x1, .i1⟩
  | .hbm, ⟨37, _⟩ => ⟨S_, .f32⟩
  | .hbm, ⟨38, _⟩ => ⟨S_, .f32⟩
  | .hbm, ⟨39, _⟩ => ⟨S256x256, .i1⟩
  | .hbm, ⟨40, _⟩ => ⟨S256x256, .f32⟩
  | .hbm, ⟨41, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.Geometry.lean ====
/-
Geometry of the expert-dispatch kernel: which device talks to which, the pieces of the scratch buffers that travel,
the semaphore cells, and the contents of every buffer the kernel fills.

There are four devices. Device `c` computes, for every device `t`, its experts' contribution to the 64 tokens `t`
owns. The contribution to its own tokens it keeps; the other three it sends: for `o = 0, 1, 2` the block for device
`c + o + 1` goes into slot `o` of that device's receive buffer.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Pipeline.Value
public import Idealize.ShloMosaic.Lib.Ring.FamCut
public import Idealize.ShloMosaic.Lib.Tactic

@[expose] public section

set_option maxRecDepth 16384

noncomputable section

namespace Cert.Dispatch

open Cert.KernelIdeal Cert.KernelIdeal.Gen
open Idealize.ShloMosaic Idealize.ShloMosaic.TcCoe

variable {F : FTy → Type} [FloatOps F]

/-! ## Who talks to whom -/

set_option backward.proofsInPublic true in
/-- The device `o + 1` places further on. -/
def fwd (c : Dev nD) (o : Fin 3) : Dev nD := ⟨(c.val + o.val + 1) % 4, Nat.mod_lt _ (by decide)⟩

/-- Going `o + 1` places and then the remaining places comes back. -/
theorem fwd_fwd_rev : ∀ (c : Dev nD) (o : Fin 3), fwd (fwd c o) o.rev = c := by decide
theorem fwd_rev_fwd : ∀ (c : Dev nD) (o : Fin 3), fwd (fwd c o.rev) o = c := by decide

/-- Going `o + 1` places on permutes the devices. -/
def hop (o : Fin 3) : Dev nD ≃ Dev nD := ⟨fun c => fwd c o, fun c => fwd c o.rev, fun c => fwd_fwd_rev c o, fun c => fwd_rev_fwd c o⟩

/-- The device numbers the kernel computes for its three signals and its three transfers. -/
theorem dev1_eq : ∀ c : Dev nD, (⟨k0_dev1 c, k0_dev1_lt c⟩ : Dev nD) = fwd c 0 := by decide +kernel
theorem dev2_eq : ∀ c : Dev nD, (⟨k0_dev2 c, k0_dev2_lt c⟩ : Dev nD) = fwd c 1 := by decide +kernel
theorem dev3_eq : ∀ c : Dev nD, (⟨k0_dev3 c, k0_dev3_lt c⟩ : Dev nD) = fwd c 2 := by decide +kernel
theorem dev4_eq : ∀ c : Dev nD, (⟨k0_dev4 c, k0_dev4_lt c⟩ : Dev nD) = fwd c 1 := by decide +kernel
theorem dev5_eq : ∀ c : Dev nD, (⟨k0_dev5 c, k0_dev5_lt c⟩ : Dev nD) = fwd c 0 := by decide +kernel
theorem dev6_eq : ∀ c : Dev nD, (⟨k0_dev6 c, k0_dev6_lt c⟩ : Dev nD) = fwd c 2 := by decide +kernel

/-- The first row of the 64 device `t` owns. -/
abbrev row0 (t : Dev nD) : Fin 2 → Nat := ![64 * t.val, 0]

theorem off1_eq : ∀ (c : Dev nD) (o : Fin 3), k0_off1 c (BitVec.ofNat 32 (1 + o.val)) = row0 (fwd c o) := by decide +kernel
theorem off2_eq : ∀ (c : Dev nD) (o : Fin 3), k0_off2 c (BitVec.ofNat 32 (1 + o.val)) = row0 (fwd c o) := by decide +kernel
theorem off3_eq : ∀ (c : Dev nD) (o : Fin 3), k0_off3 c (BitVec.ofNat 32 (1 + o.val)) = row0 (fwd c o) := by decide +kernel
theorem off6_eq : ∀ (c : Dev nD) (o : Fin 3), k0_off6 c (BitVec.ofNat 32 (1 + o.val)) = row0 (fwd c o) := by decide +kernel

theorem inb_x : ∀ (t : Dev nD) (a), row0 t a + S64x128.size a ≤ S256x128.size a := by decide
theorem inb_g : ∀ (t : Dev nD) (a), row0 t a + S64x2.size a ≤ S256x2.size a := by decide
theorem inb_p : ∀ (t : Dev nD) (a), row0 t a + S64x256.size a ≤ S256x256.size a := by decide

/-! ## Buffers and their pieces -/

abbrev xM : Memref sig .tc .vmem S256x128 .bf16 := Memref.whole cc0_stg0_0
abbrev iM : Memref sig .tc .vmem S256x1 .i32 := Memref.whole cc0_stg2_0
abbrev wM : Memref sig .tc .vmem S2x128x256 .bf16 := Memref.whole cc0_stg3_0
abbrev yM : Memref sig .tc .vmem S64x256 .f32 := Memref.whole cc0_stg4_0
abbrev pM : Memref sig .tc .vmem S256x256 .bf16 := Memref.whole cc0_scratch0
abbrev gM : Memref sig .tc .vmem S256x2 .bf16 := Memref.whole cc0_scratch1
abbrev rM : Memref sig .tc .vmem S3x64x256 .bf16 := Memref.whole cc0_scratch2

theorem inb_slot : ∀ (o : Fin 3) (a), (![o.val, 0, 0] : Fin 3 → Nat) a + S1x64x256.size a ≤ S3x64x256.size a := by decide
theorem inb_sem : ∀ (o : Fin 3) (a), (![o.val] : Fin 1 → Nat) a + S1.size a ≤ S3.size a := by decide

/-- Slot `o` of the receive buffer, as a rectangle of it; -/
abbrev slotR (o : Fin 3) : Rect S3x64x256 := Rect.unit (s := S3x64x256) ![o.val, 0, 0] S1x64x256.size (inb_slot o)
/-- as the 64 × 256 memref a transfer lands in. -/
abbrev slotM (o : Fin 3) : Memref sig .tc .vmem S64x256 .bf16 :=
  (rM.slice (slotR o) (fun _ => rfl)).squeeze S64x256 squeezes_S1x64x256_S64x256

/-- The rows of the send buffer device `c` sends with offset `o`. -/
abbrev sendR (c : Dev nD) (o : Fin 3) : Rect S256x256 :=
  Rect.unit (s := S256x256) (k0_off6 c (BitVec.ofNat 32 (1 + o.val))) S64x256.size (k0_off6_inb c o)
abbrev sendM (c : Dev nD) (o : Fin 3) : Memref sig .tc .vmem S64x256 .bf16 := pM.slice (sendR c o) (fun _ => rfl)

/-- The elements of a receive slot, and of the rows sent. -/
abbrev slotS (o : Fin 3) : Finset S3x64x256.Idx := (slotM o).view.set
abbrev sendS (c : Dev nD) (o : Fin 3) : Finset S256x256.Idx := (sendM c o).view.set

theorem mem_slotS (o : Fin 3) (i : S3x64x256.Idx) : i ∈ slotS o ↔ (i 0).val = o.val := by
  have h : slotS o = (slotR o).set := by
    unfold slotS slotM
    rw [Memref.set_view_squeeze]
    exact View.set_slice_whole _ _
  rw [h, Rect.mem_set_unit]
  have h1 : (i 1).val < 64 := (i 1).isLt
  have h2 : (i 2).val < 256 := (i 2).isLt
  constructor
  · intro h
    have := h 0
    change o.val ≤ (i 0).val ∧ (i 0).val < o.val + 1 at this
    omega
  · intro h a
    match a with
    | ⟨0, _⟩ => change o.val ≤ (i 0).val ∧ (i 0).val < o.val + 1; omega
    | ⟨1, _⟩ => change 0 ≤ (i 1).val ∧ (i 1).val < 0 + 64; omega
    | ⟨2, _⟩ => change 0 ≤ (i 2).val ∧ (i 2).val < 0 + 256; omega

theorem mem_sendS (c : Dev nD) (o : Fin 3) (i : S256x256.Idx) : i ∈ sendS c o → (i 0).val / 64 = (fwd c o).val := by
  have h : sendS c o = (sendR c o).set := View.set_slice_whole _ _
  rw [h, Rect.mem_set_unit, off6_eq]
  intro h
  have := h 0
  change 64 * (fwd c o).val ≤ (i 0).val ∧ (i 0).val < 64 * (fwd c o).val + 64 at this
  omega

/-- Different slots share no element; -/
theorem slotS_disjoint (o o' : Fin 3) (h : o ≠ o') : Disjoint (slotS o) (slotS o') := by
  rw [Finset.disjoint_left]
  intro i hi hi'
  rw [mem_slotS] at hi hi'
  exact h (Fin.ext (hi.symm.trans hi'))

/-- the rows sent to different devices share none either. -/
theorem sendS_disjoint (c : Dev nD) (o o' : Fin 3) (h : o ≠ o') : Disjoint (sendS c o) (sendS c o') := by
  rw [Finset.disjoint_left]
  intro i hi hi'
  have h1 := (mem_sendS c o i hi).symm.trans (mem_sendS c o' i hi')
  clear hi hi' i
  revert c o o'; decide

/-! ## Cells -/

abbrev barS : Sem sig := (SemArray.scalar (sig.barrier 0 rfl) : Sems sig S_).sem
abbrev sendQ (o : Fin 3) : DmaSem sig := ((cc0_scratch3.slice (Rect.unit (s := S3) ![o.val] S1.size (inb_sem o))).squeeze S_ squeezes_S1_S_).sem
abbrev recvQ (o : Fin 3) : DmaSem sig := ((cc0_scratch4.slice (Rect.unit (s := S3) ![o.val] S1.size (inb_sem o))).squeeze S_ squeezes_S1_S_).sem

abbrev barCell (c : Dev nD) : GSem nD τ sig := ((c : Thread nD τ), .reg barS)
abbrev sendCell (c : Dev nD) (o : Fin 3) : GSem nD τ sig := ((c : Thread nD τ), .dma (sendQ o))
abbrev recvCell (c : Dev nD) (o : Fin 3) : GSem nD τ sig := ((c : Thread nD τ), .dma (recvQ o))

/-- What a semaphore is for. -/
inductive Role where
  | bar | send (o : Fin 3) | recv (o : Fin 3) | other
  deriving DecidableEq

set_option backward.proofsInPublic true in
/-- The role of each semaphore: the barrier, the three that count bytes sent, the three that count bytes received. -/
def role : SemLoc sig → Role
  | .reg s => if s = barS then .bar else .other
  | .dma q =>
    if h : 5 ≤ q.val ∧ q.val < 8 then .send ⟨q.val - 5, by omega⟩
    else if h : 8 ≤ q.val ∧ q.val < 11 then .recv ⟨q.val - 8, by omega⟩
    else .other

theorem role_bar : role (.reg barS) = .bar := by decide
theorem role_send : ∀ o : Fin 3, role (.dma (sendQ o)) = .send o := by decide
theorem role_recv : ∀ o : Fin 3, role (.dma (recvQ o)) = .recv o := by decide

/-- The semaphores of the protocol in one list: the barrier, then the three send, then the three receive semaphores. -/
abbrev pcell (ck : Dev nD × Fin 7) : GSem nD τ sig := match ck.2 with
  | 0 => barCell ck.1
  | 1 => sendCell ck.1 0 | 2 => sendCell ck.1 1 | 3 => sendCell ck.1 2
  | 4 => recvCell ck.1 0 | 5 => recvCell ck.1 1 | 6 => recvCell ck.1 2

/-- The six of them that belong to the launch. -/
abbrev osem : Fin 6 → SemLoc sig := fun
  | 0 => .dma (sendQ 0) | 1 => .dma (sendQ 1) | 2 => .dma (sendQ 2)
  | 3 => .dma (recvQ 0) | 4 => .dma (recvQ 1) | 5 => .dma (recvQ 2)

/-- What one transfer credits: the amount of one 64 × 256 block. -/
abbrev N : ℕ := (slotM 0).view.dmaCredit
theorem N_pos : 0 < N := View.dmaCredit_pos _ (by decide)

/-! ## Contents -/

section Contents

/-- Reading a block depends on where the block starts only. -/
theorem readAt_congr {s : Shape} {e : EltTy} (M : Memref sig .tc .vmem s e) {o o' : Fin s.rank → Nat} {size : Fin s.rank → Nat} (h : o = o')
    (inb : ∀ a, o a + size a ≤ s.size a) (inb' : ∀ a, o' a + size a ≤ s.size a) (f : M.view.ty.Contents (Elt F)) :
    M.view.readAt (Elt F) (Rect.unit (s := s) o size inb).toLoadRect f = M.view.readAt (Elt F) (Rect.unit (s := s) o' size inb').toLoadRect f := by
  subst h; rfl

/-- Rows `64 t … 64 t + 63` of the tokens; -/
def xRows (x : Vec F S256x128 .bf16) (t : Dev nD) : Vec F S64x128 .bf16 :=
  xM.view.readAt (Elt F) (Rect.unit (s := S256x128) (row0 t) S64x128.size (inb_x t)).toLoadRect x
/-- of the gates. -/
def gRows (g : Vec F S256x2 .bf16) (t : Dev nD) : Vec F S64x2 .bf16 :=
  gM.view.readAt (Elt F) (Rect.unit (s := S256x2) (row0 t) S64x2.size (inb_g t)).toLoadRect g
/-- The first and the second of a device's two expert matrices. -/
def wFst (w : Vec F S2x128x256 .bf16) : Vec F S1x128x256 .bf16 :=
  wM.view.readAt (Elt F) (Rect.unit (s := S2x128x256) ![0, 0, 0] S1x128x256.size inb_S2x128x256_S1x128x256_0_0_0).toLoadRect w
def wSnd (w : Vec F S2x128x256 .bf16) : Vec F S1x128x256 .bf16 :=
  wM.view.readAt (Elt F) (Rect.unit (s := S2x128x256) ![1, 0, 0] S1x128x256.size inb_S2x128x256_S1x128x256_1_0_0).toLoadRect w

/-- The gates device `c` computes from the routes: one column for each of its two experts. -/
def gates (c : Dev nD) (idx : Vec F S256x1 .i32) : Vec F S256x2 .bf16 :=
  k0_pay1 (F := F) (Scalar.remsi (Scalar.divsi (Dev.word c) 1#32) 4#32) idx

/-- The contribution device `c` computes for the tokens of device `t`, as it is sent; -/
def chunk (c t : Dev nD) (x : Vec F S256x128 .bf16) (idx : Vec F S256x1 .i32) (w : Vec F S2x128x256 .bf16) : FVec F S64x256 .bf16 :=
  k0_pay2 (xRows x t) (gRows (gates c idx) t) (wFst w) (wSnd w)
/-- for its own tokens, kept in the wider format. -/
def own (c : Dev nD) (x : Vec F S256x128 .bf16) (idx : Vec F S256x1 .i32) (w : Vec F S2x128x256 .bf16) : FVec F S64x256 .f32 :=
  k0_pay6 (k0_pay5 (xRows x c)) (gRows (gates c idx) c) (wFst w) (wSnd w)

/-- What device `c` stores: its own contribution and the three received, added in the order they are waited for. -/
def total (a : FVec F S64x256 .f32) (b0 b2 b1 : FVec F S64x256 .bf16) : FVec F S64x256 .f32 :=
  addf (addf (addf a (extf .f32 b0 bitsLt_bf16_f32)) (extf .f32 b2 bitsLt_bf16_f32)) (extf .f32 b1 bitsLt_bf16_f32)

theorem pay8_eq (a : FVec F S64x256 .f32) (l0 l2 l1 : Vec F S1x64x256 .bf16) :
    k0_pay8 (k0_pay7 a l0) l2 l1
      = total a (shapeCast S64x256 l0 shapeCasts_S1x64x256_S64x256) (shapeCast S64x256 l2 shapeCasts_S1x64x256_S64x256)
          (shapeCast S64x256 l1 shapeCasts_S1x64x256_S64x256) := rfl

theorem pay3_eq : k0_pay3 (F := F) = k0_pay2 (F := F) := rfl
theorem pay4_eq : k0_pay4 (F := F) = k0_pay2 (F := F) := rfl

end Contents

end Cert.Dispatch

end
-- ==== Proof.Schedule.lean ====
/-
The protocol of the expert-dispatch kernel.

Every device has seven semaphore cells, each used for one round.

* `barCell d`: three duties of one unit. Duty `o` is paid by the device `fwd d o`, the one `d` will send to with
  offset `o`; with it that device hands over slot `o` of its receive buffer, at whatever contents. So when `d` has
  waited for three units it may write into all three slots it sends to.
* `sendCell d o`: one duty, the credit of a block, paid by `d`'s own transfer; it gives back the rows sent.
* `recvCell d o`: one duty, the credit of a block, paid by the transfer of the device that sends to `d` with offset
  `o`; it gives `d` its slot `o` holding that device's contribution.

A device signals its three peers first, so the barrier is below the receive cells: nobody waits for the barrier while
owing a signal, and nobody waits for a transfer while owing one.
-/
module

public import proofs.«01_k».proof.Proof.Geometry

@[expose] public section

set_option maxRecDepth 16384

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state: the pipeline's and the protocol's, whose duties are named by an offset. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The arguments as the kernel finds them, and what it makes of them -/

/-- Device `c`'s tokens, routes and expert matrices. -/
abbrev xAt (c : Dev nD) : Vec F S256x128 .bf16 := iblk m c 0 t0_0
abbrev iAt (c : Dev nD) : Vec F S256x1 .i32 := iblk m c 2 t0_0
abbrev wAt (c : Dev nD) : Vec F S2x128x256 .bf16 := iblk m c 3 t0_0

/-- What device `s` sends device `t`. -/
def chunkAt (s t : Dev nD) : FVec F S64x256 .bf16 := chunk s t (xAt m s) (iAt m s) (wAt m s)

/-- What device `c` stores as its result: slot `o` was filled by the device `3 - o` places further on. -/
def outAt (c : Dev nD) : FVec F S64x256 .f32 :=
  total (own c (xAt m c) (iAt m c) (wAt m c)) (chunkAt m (fwd c 2) c) (chunkAt m (fwd c 0) c) (chunkAt m (fwd c 1) c)

/-! ## Ownership of the travelling pieces -/

/-- Slot `o` of device `c`'s receive buffer at contents `f`. -/
def slotP (c : Dev nD) (o : Fin 3) (f : Buf (Elt F) ((c : Thread nD τ).loc cc0_scratch2)) : sProp 𝕄 :=
  (slotM o).view.loc (c : Thread nD τ) ↦[(slotM o).view.set]{fullShare} f
/-- The rows device `c` sends with offset `o`, at contents `f`. -/
def rowsP (c : Dev nD) (o : Fin 3) (f : Buf (Elt F) ((c : Thread nD τ).loc cc0_scratch0)) : sProp 𝕄 :=
  (sendM c o).view.loc (c : Thread nD τ) ↦[(sendM c o).view.set]{fullShare} f

omit [FloatOps F] in
instance slotP_storable (c : Dev nD) (o) (f) : BI.Storable (upEmb : UEmb _ 𝕄) (slotP (F := F) c o f) := by unfold slotP; infer_instance
omit [FloatOps F] in
instance rowsP_storable (c : Dev nD) (o) (f) : BI.Storable (upEmb : UEmb _ 𝕄) (rowsP (F := F) c o f) := by unfold rowsP; infer_instance

/-- Handed over with duty `o` of `d`'s barrier: the slot `d` will write. -/
def barPay (d : Dev nD) (o : Fin 3) : sProp 𝕄 := iprop(∃ f, slotP (fwd d o) o f)
/-- Given back by `d`'s own transfer: the rows it sent. -/
def sendPay (d : Dev nD) (o : Fin 3) : sProp 𝕄 := iprop(∃ f, rowsP d o f)
/-- Delivered to `d`: its slot `o`, holding the sender's contribution to `d`'s tokens. -/
def recvPay (d : Dev nD) (o : Fin 3) : sProp 𝕄 :=
  iprop(∃ f, ⌜(slotM o).view.read (Elt F) f = chunkAt m (fwd d o.rev) d⌝ ∗ slotP d o f)

omit [FloatOps F] in
instance barPay_storable (d : Dev nD) (o) : BI.Storable (upEmb : UEmb _ 𝕄) (barPay (F := F) d o) := by unfold barPay; infer_instance
omit [FloatOps F] in
instance sendPay_storable (d : Dev nD) (o) : BI.Storable (upEmb : UEmb _ 𝕄) (sendPay (F := F) d o) := by unfold sendPay; infer_instance
instance recvPay_storable (d : Dev nD) (o) : BI.Storable (upEmb : UEmb _ 𝕄) (recvPay m d o) := by unfold recvPay; infer_instance

/-! ## The schedule -/

/-- The duties of a cell's one round. -/
def dutiesOf : Role → Finset (Fin 3)
  | .bar => Finset.univ
  | .send _ => {0}
  | .recv _ => {0}
  | .other => ∅

def amountOf : Role → ℕ
  | .bar => 1
  | _ => N

def payOf (d : Dev nD) (j : Fin 3) : Role → sProp 𝕄
  | .bar => barPay d j
  | .send o => sendPay d o
  | .recv o => recvPay m d o
  | .other => iprop(emp)

def sched : Rounds.Schedule (GSem nD τ sig) (Fin 3) 𝕄 where
  duties g r := if r = 0 ∧ g.1.2 = .tc then dutiesOf (role g.2) else ∅
  unitless _ := False
  amount g _ _ := amountOf (role g.2)
  payload g _ j := payOf m g.1.1 j (role g.2)
  amount_pos g _ _ _ := by
    cases role g.2
    · exact Nat.one_pos
    all_goals exact N_pos

instance sched_payload_storable (g : GSem nD τ sig) (r : ℕ) (j : Fin 3) :
    BI.Storable (upEmb : UEmb _ 𝕄) ((sched (F := F) m).payload g r j) := by
  show BI.Storable upEmb (payOf m g.1.1 j (role g.2))
  cases role g.2 <;> (unfold payOf; infer_instance)

section Cells
variable (c : Dev nD) (o : Fin 3)

theorem duties_bar : (sched (F := F) m).duties (barCell c) 0 = Finset.univ := by
  dsimp only [sched]; rw [if_pos ⟨rfl, rfl⟩, role_bar]; rfl
theorem duties_send : (sched (F := F) m).duties (sendCell c o) 0 = {0} := by
  dsimp only [sched]; rw [if_pos ⟨rfl, rfl⟩, role_send]; rfl
theorem duties_recv : (sched (F := F) m).duties (recvCell c o) 0 = {0} := by
  dsimp only [sched]; rw [if_pos ⟨rfl, rfl⟩, role_recv]; rfl
/-- After its one round a cell has no duty left. -/
theorem duties_later (g : GSem nD τ sig) : ∀ r, 0 + 1 ≤ r → (sched (F := F) m).duties g r = ∅ :=
  fun r hr => by dsimp only [sched]; rw [if_neg fun h => by omega]

theorem amount_bar (j : Fin 3) : (sched (F := F) m).amount (barCell c) 0 j = 1 := by dsimp only [sched]; rw [role_bar]; rfl
theorem amount_send (j : Fin 3) : (sched (F := F) m).amount (sendCell c o) 0 j = N := by dsimp only [sched]; rw [role_send]; rfl
theorem amount_recv (j : Fin 3) : (sched (F := F) m).amount (recvCell c o) 0 j = N := by dsimp only [sched]; rw [role_recv]; rfl

theorem payload_bar (j : Fin 3) : (sched (F := F) m).payload (barCell c) 0 j = barPay c j := by dsimp only [sched]; rw [role_bar]; rfl
theorem payload_send (j : Fin 3) : (sched (F := F) m).payload (sendCell c o) 0 j = sendPay c o := by dsimp only [sched]; rw [role_send]; rfl
theorem payload_recv (j : Fin 3) : (sched (F := F) m).payload (recvCell c o) 0 j = recvPay m c o := by dsimp only [sched]; rw [role_recv]; rfl

theorem expect_bar : (sched (F := F) m).expect (barCell c) 0 = 3 := by
  unfold Schedule.expect Schedule.amountOf
  rw [duties_bar, Finset.sum_congr rfl fun j _ => amount_bar m c j]; rfl
theorem expect_send : (sched (F := F) m).expect (sendCell c o) 0 = N := by
  unfold Schedule.expect Schedule.amountOf; rw [duties_send, Finset.sum_singleton, amount_send]
theorem expect_recv : (sched (F := F) m).expect (recvCell c o) 0 = N := by
  unfold Schedule.expect Schedule.amountOf; rw [duties_recv, Finset.sum_singleton, amount_recv]

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- All of the barrier's round: the three slots `c` will write. -/
theorem rest_bar : bigSep ((sched (F := F) m).duties (barCell c) 0 \ ∅) (fun j => (sched (F := F) m).payload (barCell c) 0 j)
    = iprop(barPay c 0 ∗ barPay c 1 ∗ barPay c 2) := by
  rw [Finset.sdiff_empty, duties_bar, bigSep_fin3, payload_bar, payload_bar, payload_bar]
theorem rest_send : bigSep ((sched (F := F) m).duties (sendCell c o) 0 \ ∅) (fun j => (sched (F := F) m).payload (sendCell c o) 0 j)
    = sendPay c o := by
  rw [Finset.sdiff_empty, duties_send, bigSep_singleton, payload_send]
theorem rest_recv : bigSep ((sched (F := F) m).duties (recvCell c o) 0 \ ∅) (fun j => (sched (F := F) m).payload (recvCell c o) 0 j)
    = recvPay m c o := by
  rw [Finset.sdiff_empty, duties_recv, bigSep_singleton, payload_recv]

end Cells

/-! ## What a device owes at launch, and the levels -/

/-- The credits of its transfers, in the order that leaves the one issued first last: -/
def owesC (c : Dev nD) : CellTallies nD τ sig Unit := tallyAt (recvCell (fwd c 2) 2) () N
def owesB (c : Dev nD) : CellTallies nD τ sig Unit := owesC c + tallyAt (recvCell (fwd c 0) 0) () N
def owesA (c : Dev nD) : CellTallies nD τ sig Unit := owesB c + tallyAt (recvCell (fwd c 1) 1) () N
/-- and before them the three signals. -/
def owes₂ (c : Dev nD) : CellTallies nD τ sig Unit := owesA c + tallyAt (barCell (fwd c 2)) () 1
def owes₁ (c : Dev nD) : CellTallies nD τ sig Unit := owes₂ c + tallyAt (barCell (fwd c 1)) () 1
def owes₀ (c : Dev nD) : CellTallies nD τ sig Unit := owes₁ c + tallyAt (barCell (fwd c 0)) () 1

def L (g : GSem nD τ sig) : Finset Unit := if g.1.2 = .tc then {()} else ∅
/-- Barriers at 1, receive cells at 2, every other cell at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_recv (c : Dev nD) (o : Fin 3) (u : Unit) : lv (recvCell c o) u = 2 := by unfold lv; rw [role_recv]

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h; omega

/-- At the barrier a device still owes credits to receive cells only; -/
theorem owesA_pos {c : Dev nD} {g : GSem nD τ sig} {u : Unit} (h : 0 < owesA c g u) : ∃ d o, g = recvCell d o := by
  unfold owesA owesB owesC at h
  rcases add_pos_cases h with h | h
  · rcases add_pos_cases h with h | h
    · exact ⟨_, _, tally_pos h⟩
    · exact ⟨_, _, tally_pos h⟩
  · exact ⟨_, _, tally_pos h⟩
/-- at launch to receive cells and barriers only. -/
theorem owes₀_pos {c : Dev nD} {g : GSem nD τ sig} {u : Unit} (h : 0 < owes₀ c g u) : (∃ d o, g = recvCell d o) ∨ ∃ d, g = barCell d := by
  unfold owes₀ owes₁ owes₂ at h
  rcases add_pos_cases h with h | h
  · rcases add_pos_cases h with h | h
    · rcases add_pos_cases h with h | h
      · exact .inl (owesA_pos h)
      · exact .inr ⟨_, tally_pos h⟩
    · exact .inr ⟨_, tally_pos h⟩
  · exact .inr ⟨_, tally_pos h⟩

omit [FloatOps F] in
/-- A wait for a staging copy is below everything owed. -/
theorem mayWait_stage (c : Dev nD) (q : DmaSem sig) (hq : role (.dma q) = .other) (O : CellTallies nD τ sig Unit) (hO : O = owes₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owes₀_pos hg with ⟨d, o, rfl⟩ | ⟨d, rfl⟩ <;> exact Finset.mem_singleton_self _)
      (fun p hp => by rw [Finset.mem_singleton.mp hp]; unfold lv; rw [hq])
      (fun g u hg => by
        rcases owes₀_pos hg with ⟨d, o, rfl⟩ | ⟨d, rfl⟩
        · rw [lv_recv]; decide
        · rw [lv_bar]; decide)
  · rw [MayWait_zero]; iintro -; iempintro

omit [FloatOps F] in
/-- The wait for the barrier is below the credits still owed. -/
theorem mayWait_bar (c : Dev nD) : (levAts L lv : sProp 𝕄) ⊢ MayWait (c : Thread nD τ) (.reg barS) () (owesA c) :=
  MayOwe.of_cut (L := L) (lev := lv) 1 (fun p hp => by rw [Finset.mem_singleton.mp hp, L_tc]; exact Finset.mem_singleton_self _)
    (fun g u hg => by obtain ⟨d, o, rfl⟩ := owesA_pos hg; exact Finset.mem_singleton_self _)
    (fun p hp => by rw [Finset.mem_singleton.mp hp]; exact le_of_eq (lv_bar c _))
    (fun g u hg => by obtain ⟨d, o, rfl⟩ := owesA_pos hg; rw [lv_recv]; decide)

end Cert.Dispatch

end
-- ==== Proof.Steps.lean ====
/-
One rule for each kind of step the dispatch kernel takes: reading rows of the tokens or of the gates, an expert matrix or
a received block; storing a block into the rows to be sent; signalling a peer; sending a block; and the three kinds of
wait.
-/
module

public import proofs.«01_k».proof.Proof.Schedule

@[expose] public section

set_option maxRecDepth 16384

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)
variable (K : Dev nD × Fin 7 → ℕ) (c : Dev nD)

/-! ## What every device knows -/

/-- The invariants of all 28 cells under the names `K`, and that each has reached its round. -/
def records : sProp 𝕄 :=
  iprop((bigSep Finset.univ fun ck : Dev nD × Fin 7 => cellInv ER (sched m) (K ck) (pcell ck))
    ∗ bigSep Finset.univ fun ck : Dev nD × Fin 7 => reached ER (pcell ck) 0)

instance records_persistent : BI.Persistent (records m K) := by unfold records; infer_instance

theorem inv_of (ck : Dev nD × Fin 7) : records m K ⊢ cellInv ER (sched m) (K ck) (pcell ck) := by
  unfold records
  have h : (bigSep Finset.univ fun ck : Dev nD × Fin 7 => (cellInv ER (sched m) (K ck) (pcell ck) : sProp 𝕄)) ⊢ cellInv ER (sched m) (K ck) (pcell ck) := bigSep_elim (Finset.mem_univ ck)
  iintro ⟨H, -⟩
  iapply h; iexact H

theorem reached_of (ck : Dev nD × Fin 7) : records m K ⊢ reached ER (pcell ck) 0 := by
  unfold records
  have h : (bigSep Finset.univ fun ck : Dev nD × Fin 7 => (reached ER (pcell ck) 0 : sProp 𝕄)) ⊢ reached ER (pcell ck) 0 := bigSep_elim (Finset.mem_univ ck)
  iintro ⟨-, H⟩
  iapply h; iexact H

/-- Where the cells stand in the list of seven. -/
abbrev sendIx : Fin 3 → Fin 7 := fun | 0 => 1 | 1 => 2 | 2 => 3
abbrev recvIx : Fin 3 → Fin 7 := fun | 0 => 4 | 1 => 5 | 2 => 6
theorem pcell_bar (d : Dev nD) : pcell (d, 0) = barCell d := rfl
theorem pcell_send (d : Dev nD) : ∀ o : Fin 3, pcell (d, sendIx o) = sendCell d o := fun | 0 => rfl | 1 => rfl | 2 => rfl
theorem pcell_recv (d : Dev nD) : ∀ o : Fin 3, pcell (d, recvIx o) = recvCell d o := fun | 0 => rfl | 1 => rfl | 2 => rfl

theorem inv_send (d : Dev nD) (o : Fin 3) : records m K ⊢ cellInv ER (sched m) (K (d, sendIx o)) (sendCell d o) := by
  have h := inv_of m K (d, sendIx o)
  rw [pcell_send] at h; exact h
theorem inv_recv (d : Dev nD) (o : Fin 3) : records m K ⊢ cellInv ER (sched m) (K (d, recvIx o)) (recvCell d o) := by
  have h := inv_of m K (d, recvIx o)
  rw [pcell_recv] at h; exact h
theorem reached_send (d : Dev nD) (o : Fin 3) : records m K ⊢ reached ER (sendCell d o) 0 := by
  have h := reached_of m K (d, sendIx o)
  rw [pcell_send] at h; exact h
theorem reached_recv (d : Dev nD) (o : Fin 3) : records m K ⊢ reached ER (recvCell d o) 0 := by
  have h := reached_of m K (d, recvIx o)
  rw [pcell_recv] at h; exact h

/-! ## Loads and stores -/

/-- Reading a part of a buffer held whole, its value known. -/
theorem step_load {α : Type} {Q : α → sProp 𝕄} {s : Shape} {e : EltTy} (M : Memref sig .tc .vmem s e) {r : LoadRect s} {f : Buf (Elt F) (M.view.loc (c : Thread nD τ))}
    {v : r.shape.Idx → Elt F e} (hv : M.view.readAt (Elt F) r f = v) {hl : M.view.LoadsAt r} {k : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (k v) Q)
          -∗ wp frame (wpE (defs₀ (F := F)) 𝒱₀ (c : Thread nD τ) none) Set.univ (.op (.load M r hl) k) Q) := by
  subst hv
  exact wp_load 𝒱₀ (c : Thread nD τ) none Set.univ (Finset.subset_univ _)

/-- Writing a part of a buffer held whole, the contents it leaves known. -/
theorem step_store {α : Type} {Q : α → sProp 𝕄} {s : Shape} {e : EltTy} (M : Memref sig .tc .vmem s e) {r : Rect s} {f f' : Buf (Elt F) (M.view.loc (c : Thread nD τ))}
    {w : r.shape.Idx → Elt F e} (hf : (M.access r).write (Elt F) f w Finset.univ = f') {hx : (M.access r).Stores Finset.univ} {hm : _}
    {k : PUnit → Prog (TpuEff nD τ sig (Elt F) Λ₀ .tc) α} :
    (M.view.loc (c : Thread nD τ) ↦{fullShare} f : sProp 𝕄)
      ⊢ iprop(((M.view.loc (c : Thread nD τ) ↦{fullShare} f') -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  subst hf
  exact wp_store 𝒱₀ (c : Thread nD τ) none Set.univ (m := M) (r := r) (Finset.subset_univ _)

variable (o : Fin 3)

/-- The rows of the send buffer a block is stored to. -/
abbrev fillR : Rect S256x256 :=
  Rect.unit (s := S256x256) (k0_off3 c (BitVec.ofNat 32 (1 + o.val))) S64x256.size (k0_off3_inb c o)

theorem access_set_congr {s : Shape} {e : EltTy} (M : Memref sig .tc .vmem s e) {a b : Fin s.rank → Nat} (size : Fin s.rank → Nat) (h : a = b)
    (ha : ∀ i, a i + size i ≤ s.size i) (hb : ∀ i, b i + size i ≤ s.size i) :
    (M.access (Rect.unit (s := s) a size ha)).set = (M.access (Rect.unit (s := s) b size hb)).set := by
  subst h; rfl

theorem access_read_congr {s : Shape} {e : EltTy} (M : Memref sig .tc .vmem s e) {a b : Fin s.rank → Nat} (size : Fin s.rank → Nat) (h : a = b)
    (ha : ∀ i, a i + size i ≤ s.size i) (hb : ∀ i, b i + size i ≤ s.size i) (f : M.view.ty.Contents (Elt F)) (w : (⟨s.rank, size⟩ : Shape).Idx → Elt F e) :
    (M.access (Rect.unit (s := s) b size hb)).read (Elt F) ((M.access (Rect.unit (s := s) a size ha)).write (Elt F) f w Finset.univ) = w := by
  subst h
  exact View.read_write_univ (v := M.access (Rect.unit (s := s) a size ha)) f w

/-- They are the rows it is sent from; -/
theorem stored_set : (pM.access (fillR c o)).set = sendS c o :=
  access_set_congr pM S64x256.size ((off3_eq c o).trans (off6_eq c o).symm) _ _

/-- what was stored there is what is sent. -/
theorem stored_read (f : Buf (Elt F) ((c : Thread nD τ).loc cc0_scratch0)) (w : FVec F S64x256 .bf16) :
    (sendM c o).view.read (Elt F) ((pM.access (fillR c o)).write (Elt F) f w Finset.univ) = w :=
  access_read_congr pM S64x256.size ((off3_eq c o).trans (off6_eq c o).symm) _ _ f w

/-- Reading the rows to be sent, whose value is not used; -/
theorem step_peek {α : Type} {Q : α → sProp 𝕄} {f : Buf (Elt F) ((c : Thread nD τ).loc cc0_scratch0)} {hl : pM.view.LoadsAt (fillR c o).toLoadRect}
    {k : Vec F S64x256 .bf16 → Prog (TpuEff nD τ sig (Elt F) Λ₀ .tc) α} :
    rowsP c o f
      ⊢ iprop((∀ v, rowsP c o f -∗ wp frame (wpE (defs₀ (F := F)) 𝒱₀ (c : Thread nD τ) none) Set.univ (k v) Q)
          -∗ wp frame (wpE (defs₀ (F := F)) 𝒱₀ (c : Thread nD τ) none) Set.univ
              (.op (.load pM (fillR c o).toLoadRect hl) k) Q) := by
  unfold rowsP
  iintro H Hk
  iapply (wp_load_rect 𝒱₀ (c : Thread nD τ) none Set.univ (m := pM) (r := fillR c o) (S := sendS c o) (le_of_eq (stored_set c o))) $$ H
  iintro H
  iapply Hk
  iexact H

/-- storing a block into them. -/
theorem step_fill {α : Type} {Q : α → sProp 𝕄} {f : Buf (Elt F) ((c : Thread nD τ).loc cc0_scratch0)} {w : FVec F S64x256 .bf16} {hx : _} {hm : _}
    {k : PUnit → Prog (TpuEff nD τ sig (Elt F) Λ₀ .tc) α} :
    rowsP c o f
      ⊢ iprop(((∃ g, ⌜(sendM c o).view.read (Elt F) g = w⌝ ∗ rowsP c o g) -∗ wp frame (wpE (defs₀ (F := F)) 𝒱₀ (c : Thread nD τ) none) Set.univ (k ⟨⟩) Q)
          -∗ wp frame (wpE (defs₀ (F := F)) 𝒱₀ (c : Thread nD τ) none) Set.univ
              (.op (.store pM (fillR c o) w Finset.univ hx hm) k) Q) := by
  unfold rowsP
  iintro H Hk
  iapply (wp_store 𝒱₀ (c : Thread nD τ) none Set.univ (m := pM) (r := fillR c o) (Mk := Finset.univ) (S := sendS c o) (le_of_eq (stored_set c o))) $$ H
  iintro H
  iapply Hk
  iexists _
  isplitr
  · ipureintro; exact stored_read c o f w
  iexact H

/-- Reading a received block. -/
theorem step_take {α : Type} {Q : α → sProp 𝕄} {f : Buf (Elt F) ((c : Thread nD τ).loc cc0_scratch2)} {w : FVec F S64x256 .bf16} (hw : (slotM o).view.read (Elt F) f = w)
    {hl : rM.view.LoadsAt (slotR o).toLoadRect}
    {k : Vec F S1x64x256 .bf16 → Prog (TpuEff nD τ sig (Elt F) Λ₀ .tc) α} :
    slotP c o f
      ⊢ iprop((∀ v, ⌜shapeCast S64x256 v shapeCasts_S1x64x256_S64x256 = w⌝ -∗ slotP c o f -∗ wp frame (wpE (defs₀ (F := F)) 𝒱₀ (c : Thread nD τ) none) Set.univ (k v) Q)
          -∗ wp frame (wpE (defs₀ (F := F)) 𝒱₀ (c : Thread nD τ) none) Set.univ (.op (.load rM (slotR o).toLoadRect hl) k) Q) := by
  unfold slotP
  iintro H Hk
  have hv : shapeCast S64x256 ((rM.access (slotR o)).read (Elt F) f : Vec F S1x64x256 .bf16) shapeCasts_S1x64x256_S64x256 = w := hw
  iapply (wp_load_rect 𝒱₀ (c : Thread nD τ) none Set.univ (m := rM) (r := slotR o) (S := slotS o)
    (by unfold slotS slotM; rw [Memref.set_view_squeeze])) $$ H
  iintro H
  ispecialize Hk $$ %_ [] H
  · ipureintro; exact hv
  iexact Hk

/-! ## Signals, transfers, waits -/

variable {m K}

/-- Signalling the device `o + 1` places on: it is handed the slot it will write into. -/
theorem step_signal {α : Type} {Q : α → sProp 𝕄} {O O' : CellTallies nD τ sig Unit} (hO : O' = O + tallyAt (barCell (fwd c o)) () 1) {W : Waits sig Unit}
    {f : Buf (Elt F) ((c : Thread nD τ).loc cc0_scratch2)} {k : PUnit → Prog (TpuEff nD τ sig (Elt F) Λ₀ .tc) α} :
    iprop(records m K ∗ owes (c : Thread nD τ) O' W ∗ dutyTok ER (barCell (fwd c o)) 0 o.rev ∗ slotP c o.rev f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (fwd c o : Thread nD τ) barS (1#32 : BitVec 32).toInt) k) Q) := by
  refine BIBase.Entails.trans ?_ (Rounds.wp_signal 𝒱₀ ER (sched m) (c : Thread nD τ) none (dst := (fwd c o : Thread nD τ)) (κ := K (fwd c o, 0))
    (d := o.rev) (k' := 1) (r := 0) (sem := barS) (by rw [duties_bar]; exact Finset.mem_univ _) (amount_bar m (fwd c o) o.rev) () O hO)
  iintro ⟨#HR, HO, Ht, Hs⟩
  isplitr; · iapply (inv_of m K (fwd c o, 0)); iexact HR
  isplitl [HO]; · iexact HO
  isplitl [Ht]; · iexact Ht
  isplitl [Hs]
  · rw [payload_bar]; unfold barPay; rw [fwd_fwd_rev]; iexists f; iexact Hs
  iapply (reached_of m K (fwd c o, 0)); iexact HR

/-- A transfer credits the amount of a block. -/
theorem amount_slot : ∀ o : Fin 3, (slotM o).view.amount (.dma (recvQ o)) = N := fun | 0 => rfl | 1 => rfl | 2 => rfl

/-- A slot overwritten with the sender's block is what the receive cell delivers. -/
theorem landed_pay {v : FVec F S64x256 .bf16} (hv : v = chunkAt m c (fwd c o)) {fd : Buf (Elt F) ((slotM o).view.loc (fwd c o : Thread nD τ))} :
    ((slotM o).view.loc (fwd c o : Thread nD τ) ↦[(slotM o).view.set]{fullShare} (slotM o).view.write (Elt F) fd v Finset.univ : sProp 𝕄)
      ⊢ recvPay m (fwd c o) o := by
  unfold recvPay slotP
  rw [fwd_fwd_rev, ← hv]
  iintro H
  iexists _
  isplitr
  · ipureintro; exact View.read_write_univ (v := (slotM o).view) fd v
  iexact H

/-- Sending the block for the device `o + 1` places on. -/
theorem step_send {α : Type} {Q : α → sProp 𝕄} {n : Dev nD} (hn : n = fwd c o) {hsc : (slotM o : Memref sig (Dev.tc n : Thread nD τ).2.kind .vmem S64x256 .bf16).view.ref.isScScratch = false}
    {hsrc : (sendM c o).view.WordExact} {hdst : (slotM o).view.WordExact}
    {hsem : DmaTarget.Typed .vmem (.dma (recvQ o)) (.remote (Dev.tc n : Thread nD τ) (slotM o) (.dma (sendQ o)) hsc)}
    {k : PUnit → Prog (TpuEff nD τ sig (Elt F) Λ₀ .tc) α} {O O' : CellTallies nD τ sig Unit} (hO : O' = O + tallyAt (recvCell (fwd c o) o) () N) {W : Waits sig Unit}
    {fs : Buf (Elt F) ((c : Thread nD τ).loc cc0_scratch0)} (hfs : (sendM c o).view.read (Elt F) fs = chunkAt m c (fwd c o))
    {fd : Buf (Elt F) ((fwd c o : Thread nD τ).loc cc0_scratch2)} :
    iprop(records m K ∗ rowsP c o fs ∗ slotP (fwd c o) o fd ∗ owes (c : Thread nD τ) O' W
        ∗ dutyTok ER (sendCell c o) 0 0 ∗ dutyTok ER (recvCell (fwd c o) o) 0 0)
      ⊢ iprop(((cred (tallyAt (sendCell c o) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sendM c o) (.remote (Dev.tc n : Thread nD τ) (slotM o) (.dma (sendQ o)) hsc) (.dma (recvQ o)) hsrc hdst hsem) k) Q) := by
  subst hn
  refine BIBase.Entails.trans ?_ (Rounds.wp_send_pointsTo (c' := (fwd c o : Thread nD τ)) 𝒱₀ ER (sched m) (c : Thread nD τ) none (κ₁ := K (c, sendIx o)) (κ₂ := K (fwd c o, recvIx o))
    (r₁ := 0) (r₂ := 0) (d₁ := 0) (d₂ := 0) (fd := fd) (fs := fs) (q := fullShare) (src := sendM c o) (dst := slotM o) (sem := .dma (recvQ o)) (sS := .dma (sendQ o))
    (by rw [duties_send]; exact Finset.mem_singleton_self _) (by rw [duties_recv]; exact Finset.mem_singleton_self _)
    () () N (amount_slot o) (amount_send m c o 0) (amount_recv m (fwd c o) o 0) O hO (W := W)
    (by rw [payload_send]; unfold sendPay rowsP; iintro H; iexists fs; iexact H)
    (by rw [payload_recv]; exact landed_pay c o hfs))
  unfold rowsP slotP
  iintro ⟨#HR, Hs, Hd, HO, Ht1, Ht2⟩
  isplitr; · iapply (inv_send m K c o); iexact HR
  isplitr; · iapply (inv_recv m K (fwd c o) o); iexact HR
  isplitl [Hs]; · iexact Hs
  isplitl [Hd]; · iexact Hd
  isplitl [HO]; · iexact HO
  isplitl [Ht1]; · iexact Ht1
  isplitr; · iapply (reached_send m K c o); iexact HR
  isplitl [Ht2]; · iexact Ht2
  iapply (reached_recv m K (fwd c o) o); iexact HR

/-- Waiting for the three signals: the slots of the three peers are this device's to write. -/
theorem step_bar {α : Type} {Q : α → sProp 𝕄} {W : Waits sig Unit} {k : PUnit → Prog (TpuEff nD τ sig (Elt F) Λ₀ .tc) α} :
    iprop(records m K ∗ levAts L lv ∗ cred (tallyAt (barCell c) () 3) ∗ owes (c : Thread nD τ) (owesA c) W ∗ atPos ER (barCell c) 0 ∅ 0)
      ⊢ iprop(((owes (c : Thread nD τ) (owesA c) (insert (SemLoc.reg barS, ()) W) ∗ atPos ER (barCell c) (0 + 1) ∅ 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32 : BitVec 32).toInt) k) Q) := by
  have h := Rounds.wp_wait_rest_token (Q := Q) (k := k) 𝒱₀ ER (sched m) (c : Thread nD τ) none (κ := K (c, 0)) (defs := defs₀ (F := F))
      (wpE_semWait_eq 𝒱₀ (c : Thread nD τ) none Set.univ (sem := barS) (k := 3)) (Set.mem_univ _) () (O := owesA c) (W := W) (R := 0) (m := 0) (T := ∅)
      (by rw [expect_bar])
  rw [rest_bar] at h
  iintro ⟨#HR, #HL, Hc, HO, Ha⟩ Hk
  iapply h $$ [Hc HO Ha]
  · isplitr; · iapply (inv_of m K (c, 0)); iexact HR
    isplitl [Hc]; · iexact Hc
    isplitl [HO]; · iexact HO
    isplitr; · iapply (mayWait_bar c); iexact HL
    iexact Ha
  iintro ⟨HO, Ha, -, Hp⟩
  iapply Hk
  isplitl [HO]; · iexact HO
  isplitl [Ha]; · iexact Ha
  iexact Hp

/-- Waiting for a received block: the slot holds it. -/
theorem step_recv {α : Type} {Q : α → sProp 𝕄} {W : Waits sig Unit} {s : Shape} {e : EltTy} {src : Memref sig .tc .vmem s e} {h₁ : src.view.WordExact} {h₂ : (slotM o).view.WordExact}
    {k : PUnit → Prog (TpuEff nD τ sig (Elt F) Λ₀ .tc) α} :
    iprop(records m K ∗ cred (tallyAt (recvCell c o) () N) ∗ owes (c : Thread nD τ) 0 W ∗ atPos ER (recvCell c o) 0 ∅ 0)
      ⊢ iprop(((owes (c : Thread nD τ) 0 (insert (SemLoc.dma (recvQ o), ()) W) ∗ atPos ER (recvCell c o) (0 + 1) ∅ 0 ∗ recvPay m c o)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvQ o) src (slotM o) h₁ h₂) k) Q) := by
  have h := Rounds.wp_wait_rest_token (Q := Q) (k := k) 𝒱₀ ER (sched m) (c : Thread nD τ) none (κ := K (c, recvIx o)) (defs := defs₀ (F := F))
      (wpE_waitDma2_eq 𝒱₀ (c : Thread nD τ) none Set.univ (sem := recvQ o) (src := src) (dst := slotM o) (hsrc := h₁) (hdst := h₂)) (Set.mem_univ _) () (O := 0) (W := W) (R := 0) (m := 0) (T := ∅)
      (by rw [Nat.zero_add, expect_recv])
  rw [rest_recv] at h
  iintro ⟨#HR, Hc, HO, Ha⟩ Hk
  iapply h $$ [Hc HO Ha]
  · isplitr; · iapply (inv_recv m K c o); iexact HR
    isplitl [Hc]; · iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iexact Hp

/-- Waiting for a block to have left: its rows are free again. -/
theorem step_sent {α : Type} {Q : α → sProp 𝕄} {W : Waits sig Unit} {s : Shape} {e : EltTy} {src : Memref sig .tc .vmem s e} {h₁ : src.view.WordExact} {h₂ : (sendM c o).view.WordExact}
    {k : PUnit → Prog (TpuEff nD τ sig (Elt F) Λ₀ .tc) α} :
    iprop(records m K ∗ cred (tallyAt (sendCell c o) () N) ∗ owes (c : Thread nD τ) 0 W ∗ atPos ER (sendCell c o) 0 ∅ 0)
      ⊢ iprop(((owes (c : Thread nD τ) 0 (insert (SemLoc.dma (sendQ o), ()) W) ∗ atPos ER (sendCell c o) (0 + 1) ∅ 0 ∗ sendPay c o)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendQ o) src (sendM c o) h₁ h₂) k) Q) := by
  have h := Rounds.wp_wait_rest_token (Q := Q) (k := k) 𝒱₀ ER (sched m) (c : Thread nD τ) none (κ := K (c, sendIx o)) (defs := defs₀ (F := F))
      (wpE_waitDma2_eq 𝒱₀ (c : Thread nD τ) none Set.univ (sem := sendQ o) (src := src) (dst := sendM c o) (hsrc := h₁) (hdst := h₂)) (Set.mem_univ _) () (O := 0) (W := W) (R := 0) (m := 0) (T := ∅)
      (by rw [Nat.zero_add, expect_send])
  rw [rest_send] at h
  iintro ⟨#HR, Hc, HO, Ha⟩ Hk
  iapply h $$ [Hc HO Ha]
  · isplitr; · iapply (inv_send m K c o); iexact HR
    isplitl [Hc]; · iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iexact Hp

/-- A cell past its one round closes: its counter, at zero, is the device's again. -/
theorem step_close (ck : Dev nD × Fin 7) (g : GSem nD τ sig) (hg : pcell ck = g) :
    iprop(records m K ∗ atPos ER g (0 + 1) ∅ 0) ⊢ |={Set.univ}=> (semVal g 0 : sProp 𝕄) := by
  subst hg
  refine BIBase.Entails.trans ?_ (Rounds.cell_close ER (sched m) (Set.mem_univ (K ck)) (fun h => h) (R := 0 + 1) (duties_later m (pcell ck)))
  iintro ⟨#HR, Ha⟩
  isplitr; · iapply (inv_of m K ck); iexact HR
  iexact Ha

end Cert.Dispatch

end
-- ==== Proof.Body.lean ====
/-
One device's run of the dispatch kernel, from what the launch hands it to what it leaves: its result in the output's
staging buffer, its arguments' blocks as they were, its scratch buffers whole again and all its semaphores at zero.
-/
module

public import proofs.«01_k».proof.Proof.Steps

@[expose] public section

set_option maxRecDepth 16384

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and what it leaves -/

section State
variable (K : Dev nD × Fin 7 → ℕ) (c : Dev nD)

/-- Its place in each of its seven cells; -/
def places : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- the duties it pays: a signal to each peer, the arrival at each peer, and the departure of each of its blocks; -/
def dues : sProp 𝕄 :=
  iprop((dutyTok ER (barCell (fwd c 2)) 0 0 ∗ dutyTok ER (barCell (fwd c 1)) 0 1 ∗ dutyTok ER (barCell (fwd c 0)) 0 2)
    ∗ (dutyTok ER (sendCell c 0) 0 0 ∗ dutyTok ER (sendCell c 1) 0 0 ∗ dutyTok ER (sendCell c 2) 0 0)
    ∗ (dutyTok ER (recvCell (fwd c 0) 0) 0 0 ∗ dutyTok ER (recvCell (fwd c 1) 1) 0 0 ∗ dutyTok ER (recvCell (fwd c 2) 2) 0 0))

/-- with them and the records of all cells, its share of the protocol. -/
def ghost : sProp 𝕄 := iprop(records m K ∗ places c ∗ dues c)

/-- The credits it waits with: three signals and three blocks. -/
def credits : sProp 𝕄 :=
  iprop(cred (tallyAt (barCell c) () 3) ∗ cred (tallyAt (recvCell c 0) () N) ∗ cred (tallyAt (recvCell c 1) () N) ∗ cred (tallyAt (recvCell c 2) () N))

def start : sProp 𝕄 := iprop((∃ K, ghost m K c) ∗ credits c ∗ levAts L lv)

/-- The parts of its scratch buffers, at whatever contents: the rows to send and the other rows, the slots (nothing is
    left beside them), the gates. -/
def rowsX : sProp 𝕄 := iprop((∃ f, rowsP c 0 f) ∗ (∃ f, rowsP c 1 f) ∗ (∃ f, rowsP c 2 f))
def slotsX : sProp 𝕄 := iprop((∃ f, slotP c 0 f) ∗ (∃ f, slotP c 1 f) ∗ (∃ f, slotP c 2 f))
def gatesX : sProp 𝕄 := iprop(∃ f : Buf (Elt F) ((c : Thread nD τ).loc cc0_scratch1), (c : Thread nD τ).loc cc0_scratch1 ↦{fullShare} f)
def restX : sProp 𝕄 :=
  iprop((∃ f : Buf (Elt F) ((c : Thread nD τ).loc cc0_scratch0), (c : Thread nD τ).loc cc0_scratch0 ↦[Ring.restOf (ℓ := (c : Thread nD τ).loc cc0_scratch0) (sendS c)]{fullShare} f)
    ∗ ∃ f : Buf (Elt F) ((c : Thread nD τ).loc cc0_scratch2), (c : Thread nD τ).loc cc0_scratch2 ↦[Ring.restOf (ℓ := (c : Thread nD τ).loc cc0_scratch2) slotS]{fullShare} f)

/-- Its own six cells closed at zero, and the barrier. -/
def zeros : sProp 𝕄 :=
  iprop((semVal (sendCell c 0) 0 ∗ semVal (sendCell c 1) 0 ∗ semVal (sendCell c 2) 0 ∗ semVal (recvCell c 0) 0 ∗ semVal (recvCell c 1) 0 ∗ semVal (recvCell c 2) 0)
    ∗ semVal (barCell c) 0)

def Φ₀ : sProp 𝕄 := iprop(start m c ∗ rowsX c ∗ slotsX c ∗ gatesX c ∗ restX c)
def Φ₁ : sProp 𝕄 := iprop(zeros c ∗ rowsX c ∗ slotsX c ∗ gatesX c ∗ restX c)

end State

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => outAt m c
  Φ t := match t with
    | ⟨0, _⟩ => Φ₀ m c
    | ⟨_ + 1, _⟩ => Φ₁ c
  q _ := fullShare
  owed t := match t with
    | ⟨0, _⟩ => owes₀ c
    | ⟨_ + 1, _⟩ => 0

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The run -/

section Run
variable (c : Dev nD)

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev held (b : Ref sig .tc) (X : b.ty.Contents (Elt F)) : sProp 𝕄 := ((c : Thread nD τ).loc b) ↦{fullShare} X

theorem zero2 : (![0, 0] : Fin 2 → Nat) = fun _ => 0 := funext fun a => by fin_cases a <;> rfl

theorem read_x (o : Fin 3) (f : Vec F S256x128 .bf16) :
    xM.view.readAt (Elt F) (Rect.unit (s := S256x128) (k0_off1 c (BitVec.ofNat 32 (1 + o.val))) S64x128.size (k0_off1_inb c o)).toLoadRect f = xRows f (fwd c o) :=
  readAt_congr xM (off1_eq c o) _ _ f
theorem read_g (o : Fin 3) (f : Vec F S256x2 .bf16) :
    gM.view.readAt (Elt F) (Rect.unit (s := S256x2) (k0_off2 c (BitVec.ofNat 32 (1 + o.val))) S64x2.size (k0_off2_inb c o)).toLoadRect f = gRows f (fwd c o) :=
  readAt_congr gM (off2_eq c o) _ _ f
theorem off4_eq : ∀ c : Dev nD, k0_off4 c = row0 c := by decide +kernel
theorem off5_eq : ∀ c : Dev nD, k0_off5 c = row0 c := by decide +kernel
theorem read_x_own (f : Vec F S256x128 .bf16) :
    xM.view.readAt (Elt F) (Rect.unit (s := S256x128) (k0_off4 c) S64x128.size (k0_off4_inb c)).toLoadRect f = xRows f c :=
  readAt_congr xM (off4_eq c) _ _ f
theorem read_g_own (f : Vec F S256x2 .bf16) :
    gM.view.readAt (Elt F) (Rect.unit (s := S256x2) (k0_off5 c) S64x2.size (k0_off5_inb c)).toLoadRect f = gRows f c :=
  readAt_congr gM (off5_eq c) _ _ f
theorem read_i (f : Vec F S256x1 .i32) :
    iM.view.readAt (Elt F) (Rect.unit (s := S256x1) ![0, 0] S256x1.size inb_S256x1_S256x1_0_0).toLoadRect f = f :=
  Memref.readAt_unit_zero (Elt F) cc0_stg2_0 zero2 _ f
theorem write_g (f w : Vec F S256x2 .bf16) :
    (gM.access (Rect.unit (s := S256x2) ![0, 0] S256x2.size inb_S256x2_S256x2_0_0)).write (Elt F) f w Finset.univ = w :=
  Memref.write_access_unit_zero_univ (Elt F) cc0_scratch1 zero2 _ f w
theorem write_y (f w : Vec F S64x256 .f32) :
    (yM.access (Rect.unit (s := S64x256) ![0, 0] S64x256.size inb_S64x256_S64x256_0_0)).write (Elt F) f w Finset.univ = w :=
  Memref.write_access_unit_zero_univ (Elt F) cc0_stg4_0 zero2 _ f w

/-- Before the body: its share of the protocol, its scratch buffers, and the staging buffers with the arguments' blocks. -/
def bodyPre (K : Dev nD × Fin 7 → ℕ) (W : Waits sig Unit) (y : Vec F S64x256 .f32) : sProp 𝕄 :=
  iprop((ghost m K c ∗ credits c ∗ levAts L lv ∗ rowsX c ∗ slotsX c ∗ gatesX c)
    ∗ owes (c : Thread nD τ) (owes₀ c) W
    ∗ held c cc0_stg0_0 (xAt m c) ∗ held c cc0_stg2_0 (iAt m c) ∗ held c cc0_stg3_0 (wAt m c) ∗ held c cc0_stg4_0 y)

/-- After it. -/
def bodyPost : sProp 𝕄 :=
  iprop((zeros c ∗ rowsX c ∗ slotsX c ∗ gatesX c)
    ∗ (∃ W, owes (c : Thread nD τ) 0 W)
    ∗ held c cc0_stg0_0 (xAt m c) ∗ held c cc0_stg2_0 (iAt m c) ∗ held c cc0_stg3_0 (wAt m c) ∗ held c cc0_stg4_0 (outAt m c))

set_option maxHeartbeats 4000000 in
theorem sound_body (K : Dev nD × Fin 7 → ℕ) (W : Waits sig Unit) (y : Vec F S64x256 .f32) (Kt : PUnit → sProp 𝕄) :
    iprop(bodyPre m c K W y ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  simp only [dev1_eq c, dev2_eq c, dev3_eq c]
  unfold bodyPre ghost places dues credits rowsX slotsX gatesX
  iintro ⟨⟨⟨⟨#HR, ⟨HaB, HaS0, HaS1, HaS2, HaR0, HaR1, HaR2⟩, ⟨HtB0, HtB1, HtB2⟩, ⟨HtS0, HtS1, HtS2⟩, HtR0, HtR1, HtR2⟩,
    ⟨HcB, HcR0, HcR1, HcR2⟩, #HL, ⟨⟨%f0, Hf0⟩, ⟨%f1, Hf1⟩, ⟨%f2, Hf2⟩⟩, ⟨⟨%s0, Hs0⟩, ⟨%s1, Hs1⟩, ⟨%s2, Hs2⟩⟩, ⟨%g, Hg⟩⟩,
    HO, Hx, Hi, Hw, Hy⟩, Hk⟩
  -- the three signals
  iapply (step_signal (m := m) (K := K) c 0 (O := owes₁ c) rfl) $$ [HO HtB2 Hs2]
  · isplitr; · iexact HR
    isplitl [HO]; · iexact HO
    isplitl [HtB2]; · iexact HtB2
    iexact Hs2
  iintro HO
  iapply (step_signal (m := m) (K := K) c 1 (O := owes₂ c) rfl) $$ [HO HtB1 Hs1]
  · isplitr; · iexact HR
    isplitl [HO]; · iexact HO
    isplitl [HtB1]; · iexact HtB1
    iexact Hs1
  iintro HO
  iapply (step_signal (m := m) (K := K) c 2 (O := owesA c) rfl) $$ [HO HtB0 Hs0]
  · isplitr; · iexact HR
    isplitl [HO]; · iexact HO
    isplitl [HtB0]; · iexact HtB0
    iexact Hs0
  iintro HO
  -- the gates
  iapply (step_load c iM (read_i _)) $$ Hi; iintro Hi
  iapply (step_load c gM rfl) $$ Hg; iintro Hg
  iapply (step_store c gM (write_g _ _)) $$ Hg; iintro Hg
  -- the block for the device two places on
  iapply (step_load c xM (read_x c 1 _)) $$ Hx; iintro Hx
  iapply (step_load c gM (read_g c 1 _)) $$ Hg; iintro Hg
  iapply (step_load c wM rfl) $$ Hw; iintro Hw
  iapply (step_load c wM rfl) $$ Hw; iintro Hw
  iapply (step_peek c 1) $$ Hf1; iintro %v1 Hf1
  iapply (step_fill c 1) $$ Hf1; iintro ⟨%g1, %hg1, Hf1⟩
  -- the block for the device one place on
  iapply (step_load c xM (read_x c 0 _)) $$ Hx; iintro Hx
  iapply (step_load c gM (read_g c 0 _)) $$ Hg; iintro Hg
  iapply (step_load c wM rfl) $$ Hw; iintro Hw
  iapply (step_load c wM rfl) $$ Hw; iintro Hw
  iapply (step_peek c 0) $$ Hf0; iintro %v0 Hf0
  iapply (step_fill c 0) $$ Hf0; iintro ⟨%g0, %hg0, Hf0⟩
  -- the block for the device three places on
  iapply (step_load c xM (read_x c 2 _)) $$ Hx; iintro Hx
  iapply (step_load c gM (read_g c 2 _)) $$ Hg; iintro Hg
  iapply (step_load c wM rfl) $$ Hw; iintro Hw
  iapply (step_load c wM rfl) $$ Hw; iintro Hw
  iapply (step_peek c 2) $$ Hf2; iintro %v2 Hf2
  iapply (step_fill c 2) $$ Hf2; iintro ⟨%g2, %hg2, Hf2⟩
  -- its own block
  iapply (step_load c xM (read_x_own c _)) $$ Hx; iintro Hx
  iapply (step_load c gM (read_g_own c _)) $$ Hg; iintro Hg
  iapply (step_load c wM rfl) $$ Hw; iintro Hw
  iapply (step_load c wM rfl) $$ Hw; iintro Hw
  -- the peers' slots
  iapply (step_bar (m := m) (K := K) c) $$ [HcB HO HaB]
  · isplitr; · iexact HR
    isplitr; · iexact HL
    isplitl [HcB]; · iexact HcB
    isplitl [HO] <;> iassumption
  unfold barPay
  iintro ⟨HO, HaB, ⟨%d0, Hd0⟩, ⟨%d1, Hd1⟩, ⟨%d2, Hd2⟩⟩
  -- the three transfers
  iapply (step_send (m := m) (K := K) c 1 (dev4_eq c) (O := owesB c) rfl hg1) $$ [Hf1 Hd1 HO HtS1 HtR1]
  · isplitr; · iexact HR
    isplitl [Hf1]; · iexact Hf1
    isplitl [Hd1]; · iexact Hd1
    isplitl [HO]; · iexact HO
    isplitl [HtS1] <;> iassumption
  iintro ⟨HcS1, HO⟩
  iapply (step_send (m := m) (K := K) c 0 (dev5_eq c) (O := owesC c) rfl hg0) $$ [Hf0 Hd0 HO HtS0 HtR0]
  · isplitr; · iexact HR
    isplitl [Hf0]; · iexact Hf0
    isplitl [Hd0]; · iexact Hd0
    isplitl [HO]; · iexact HO
    isplitl [HtS0] <;> iassumption
  iintro ⟨HcS0, HO⟩
  iapply (step_send (m := m) (K := K) c 2 (dev6_eq c) (O := 0) (zero_add _).symm hg2) $$ [Hf2 Hd2 HO HtS2 HtR2]
  · isplitr; · iexact HR
    isplitl [Hf2]; · iexact Hf2
    isplitl [Hd2]; · iexact Hd2
    isplitl [HO]; · iexact HO
    isplitl [HtS2] <;> iassumption
  iintro ⟨HcS2, HO⟩
  -- the three blocks received
  iapply (step_recv (m := m) (K := K) c 0) $$ [HcR0 HO HaR0]
  · isplitr; · iexact HR
    isplitl [HcR0]; · iexact HcR0
    isplitl [HO] <;> iassumption
  unfold recvPay
  iintro ⟨HO, HaR0, ⟨%r0, %hr0, Hs0⟩⟩
  iapply (step_take c 0 hr0) $$ Hs0; iintro %l0 %hl0 Hs0
  iapply (step_recv (m := m) (K := K) c 2) $$ [HcR2 HO HaR2]
  · isplitr; · iexact HR
    isplitl [HcR2]; · iexact HcR2
    isplitl [HO] <;> iassumption
  unfold recvPay
  iintro ⟨HO, HaR2, ⟨%r2, %hr2, Hs2⟩⟩
  iapply (step_take c 2 hr2) $$ Hs2; iintro %l2 %hl2 Hs2
  iapply (step_recv (m := m) (K := K) c 1) $$ [HcR1 HO HaR1]
  · isplitr; · iexact HR
    isplitl [HcR1]; · iexact HcR1
    isplitl [HO] <;> iassumption
  unfold recvPay
  iintro ⟨HO, HaR1, ⟨%r1, %hr1, Hs1⟩⟩
  iapply (step_take c 1 hr1) $$ Hs1; iintro %l1 %hl1 Hs1
  -- the result
  iapply (step_load c yM rfl) $$ Hy; iintro Hy
  iapply (step_store c yM (write_y _ _)) $$ Hy; iintro Hy
  -- the three blocks gone
  iapply (step_sent (m := m) (K := K) c 1) $$ [HcS1 HO HaS1]
  · isplitr; · iexact HR
    isplitl [HcS1]; · iexact HcS1
    isplitl [HO] <;> iassumption
  iintro ⟨HO, HaS1, Hf1⟩
  iapply (step_sent (m := m) (K := K) c 0) $$ [HcS0 HO HaS0]
  · isplitr; · iexact HR
    isplitl [HcS0]; · iexact HcS0
    isplitl [HO] <;> iassumption
  iintro ⟨HO, HaS0, Hf0⟩
  iapply (step_sent (m := m) (K := K) c 2) $$ [HcS2 HO HaS2]
  · isplitr; · iexact HR
    isplitl [HcS2]; · iexact HcS2
    isplitl [HO] <;> iassumption
  iintro ⟨HO, HaS2, Hf2⟩
  -- every cell closed
  imod (step_close (m := m) (K := K) (c, 0) (barCell c) rfl) $$ [HaB] with HaB
  · isplitr; · iexact HR
    iexact HaB
  imod (step_close (m := m) (K := K) (c, 1) (sendCell c 0) rfl) $$ [HaS0] with HaS0
  · isplitr; · iexact HR
    iexact HaS0
  imod (step_close (m := m) (K := K) (c, 2) (sendCell c 1) rfl) $$ [HaS1] with HaS1
  · isplitr; · iexact HR
    iexact HaS1
  imod (step_close (m := m) (K := K) (c, 3) (sendCell c 2) rfl) $$ [HaS2] with HaS2
  · isplitr; · iexact HR
    iexact HaS2
  imod (step_close (m := m) (K := K) (c, 4) (recvCell c 0) rfl) $$ [HaR0] with HaR0
  · isplitr; · iexact HR
    iexact HaR0
  imod (step_close (m := m) (K := K) (c, 5) (recvCell c 1) rfl) $$ [HaR1] with HaR1
  · isplitr; · iexact HR
    iexact HaR1
  imod (step_close (m := m) (K := K) (c, 6) (recvCell c 2) rfl) $$ [HaR2] with HaR2
  · isplitr; · iexact HR
    iexact HaR2
  rw [wp_ret]; imodintro
  iapply Hk
  have hy : k0_pay8 (k0_pay7 (own c (xAt m c) (iAt m c) (wAt m c)) l0) l2 l1 = outAt m c := by
    rw [pay8_eq, hl0, hl1, hl2]; rfl
  unfold bodyPost zeros rowsX slotsX gatesX sendPay
  rw [← hy]
  isplitl [HaB HaS0 HaS1 HaS2 HaR0 HaR1 HaR2 Hf0 Hf1 Hf2 Hs0 Hs1 Hs2 Hg]
  · isplitl [HaB HaS0 HaS1 HaS2 HaR0 HaR1 HaR2]
    · isplitr [HaB]
      · isplitl [HaS0]; · iexact HaS0
        isplitl [HaS1]; · iexact HaS1
        isplitl [HaS2]; · iexact HaS2
        isplitl [HaR0]; · iexact HaR0
        isplitl [HaR1] <;> iassumption
      iexact HaB
    isplitl [Hf0 Hf1 Hf2]
    · isplitl [Hf0]; · iexact Hf0
      isplitl [Hf1] <;> iassumption
    isplitl [Hs0 Hs1 Hs2]
    · isplitl [Hs0]; · iexists _; iexact Hs0
      isplitl [Hs1]; · iexists _; iexact Hs1
      iexists _; iexact Hs2
    iexists _; iexact Hg
  isplitl [HO]; · iexists _; iexact HO
  isplitl [Hx]; · iexact Hx
  isplitl [Hi]; · iexact Hi
  isplitl [Hw]; · iexact Hw
  iexact Hy

/-- The library's form of the same: from its state before the body's one point to its state after it. -/
theorem body_obligation : BodyObligation (dats (F := F) m ρ 0 c) (defs₀ (F := F)) 𝒱₀ () Set.univ := fun t => by
  rw [fin_N0 t]
  rw [bigSep_W0, bigSep_W0]
  simp only [owns_staged]
  show iprop(Φ₀ m c ∗ (dats m ρ 0 c).owesAt () t0_0.castSucc
      ∗ (∃ d, stg c cc0_stg0_0 ((dats m ρ 0 c).before (0 : Fin 5) t0_0 d))
      ∗ (∃ d, stg c cc0_stg1_0 ((dats m ρ 0 c).before (1 : Fin 5) t0_0 d))
      ∗ (∃ d, stg c cc0_stg2_0 ((dats m ρ 0 c).before (2 : Fin 5) t0_0 d))
      ∗ (∃ d, stg c cc0_stg3_0 ((dats m ρ 0 c).before (3 : Fin 5) t0_0 d))
      ∗ (∃ d, stg c cc0_stg4_0 ((dats m ρ 0 c).before (4 : Fin 5) t0_0 d)))
    ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4)
        (fun _ => iprop(Φ₁ c ∗ (dats m ρ 0 c).owesAt () t0_0.succ
          ∗ stg c cc0_stg0_0 (iblk m c 0 t0_0) ∗ stg c cc0_stg1_0 (iblk m c 1 t0_0) ∗ stg c cc0_stg2_0 (iblk m c 2 t0_0)
          ∗ stg c cc0_stg3_0 (iblk m c 3 t0_0) ∗ stg c cc0_stg4_0 (outAt m c)))
  unfold Φ₀ start Dat.owesAt Pipeline.owesWithin
  iintro ⟨⟨⟨⟨%K, Hgh⟩, Hcr, HL⟩, Hrows, Hslots, Hgates, Hrest⟩, ⟨%W, %hW, HO⟩, ⟨%d0, %b0, %h0, H0⟩, ⟨%d1, %b1, %h1, H1⟩, ⟨%d2, %b2, %h2, H2⟩, ⟨%d3, %b3, %h3, H3⟩, ⟨%d4, %b4, %h4, H4⟩⟩
  have e0 : b0 = xAt m c := by rw [h0]; unfold Dat.before; rw [if_pos (fetch0_0 t0_0)]; rfl
  have e1 : b1 = iblk m c 1 t0_0 := by rw [h1]; unfold Dat.before; rw [if_pos (fetch0_1 t0_0)]; rfl
  have e2 : b2 = iAt m c := by rw [h2]; unfold Dat.before; rw [if_pos (fetch0_2 t0_0)]; rfl
  have e3 : b3 = wAt m c := by rw [h3]; unfold Dat.before; rw [if_pos (fetch0_3 t0_0)]; rfl
  subst e0 e1 e2 e3
  rw [show (dats m ρ 0 c).owed t0_0.castSucc = owes₀ c from rfl, show (dats m ρ 0 c).owed t0_0.succ = 0 from rfl]
  iapply (sound_body m c K W b4)
  unfold bodyPre bodyPost
  isplitl [Hgh Hcr HL Hrows Hslots Hgates HO H0 H2 H3 H4]
  · isplitl [Hgh Hcr HL Hrows Hslots Hgates]
    · isplitl [Hgh]; · iexact Hgh
      isplitl [Hcr]; · iexact Hcr
      isplitl [HL]; · iexact HL
      isplitl [Hrows]; · iexact Hrows
      isplitl [Hslots] <;> iassumption
    isplitl [HO]; · iexact HO
    isplitl [H0]; · iexact H0
    isplitl [H2]; · iexact H2
    isplitl [H3] <;> iassumption
  iintro ⟨⟨Hz, Hrows, Hslots, Hgates⟩, ⟨%W', HO⟩, H0, H2, H3, H4⟩
  unfold Φ₁
  isplitl [Hz Hrows Hslots Hgates Hrest]
  · isplitl [Hz]; · iexact Hz
    isplitl [Hrows]; · iexact Hrows
    isplitl [Hslots]; · iexact Hslots
    isplitl [Hgates] <;> iassumption
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  iexists _; isplitr; · (ipureintro; rfl)
  iexact H4

end Run

end Cert.Dispatch

end
-- ==== Proof.Launch.lean ====
/-
The launch of the dispatch kernel on four devices: the cells and their duties are handed out, every device runs its body,
and afterwards every buffer holds what the run leaves and every semaphore is at zero.
-/
module

public import proofs.«01_k».proof.Proof.Body
public import Idealize.ShloMosaic.Lib.Pipeline.CollectiveSegs

@[expose] public section

set_option maxRecDepth 16384

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and duties -/

theorem ownSemFacts : Pipeline.OwnSemFacts cfg0.spec osem := by decide

theorem share_full (c : Dev nD) (w : Fin cfg0.W) : (dats m ρ 0 c).share w = fullShare := by unfold Dat.share; split <;> rfl

/-- The roles of the seven cells of a device are all different. -/
theorem role_pcell_inj : ∀ (d d' : Dev nD) (k k' : Fin 7), role (pcell (d, k)).2 = role (pcell (d', k')).2 → k = k' := by decide

theorem pcell_dev (d : Dev nD) : ∀ k : Fin 7, (pcell (d, k)).1.1 = d :=
  fun | 0 => rfl | 1 => rfl | 2 => rfl | 3 => rfl | 4 => rfl | 5 => rfl | 6 => rfl

theorem pcell_injective : Function.Injective pcell := by
  rintro ⟨d, k⟩ ⟨d', k'⟩ h
  have hd : d = d' := (pcell_dev d k).symm.trans ((congrArg (fun g : GSem nD τ sig => g.1.1) h).trans (pcell_dev d' k'))
  have hk : k = k' := role_pcell_inj d d' k k' (congrArg (fun g : GSem nD τ sig => role g.2) h)
  rw [hd, hk]

def allCells : Finset (GSem nD τ sig) := Finset.univ.map ⟨pcell, pcell_injective⟩

/-- The duties of a device's own cells: which kind of cell, and which offset. -/
abbrev dutyOf (ci : Dev nD × Fin 3 × Fin 3) : GSem nD τ sig × ℕ × Fin 3 := match ci.2.1 with
  | 0 => (barCell ci.1, 0, ci.2.2)
  | 1 => (sendCell ci.1 ci.2.2, 0, 0)
  | 2 => (recvCell ci.1 ci.2.2, 0, 0)

theorem dutyOf_dev (d : Dev nD) : ∀ i : Fin 3 × Fin 3, (dutyOf (d, i)).1.1.1 = d
  | (0, _) => rfl | (1, _) => rfl | (2, _) => rfl

theorem dutyOf_kind : ∀ i i' : Fin 3 × Fin 3, ∀ d d' : Dev nD,
    (role (dutyOf (d, i)).1.2, (dutyOf (d, i)).2.2) = (role (dutyOf (d', i')).1.2, (dutyOf (d', i')).2.2) → i = i' := by decide

theorem dutyOf_injective : Function.Injective dutyOf := by
  rintro ⟨d, i⟩ ⟨d', i'⟩ h
  have hd : d = d' := (dutyOf_dev d i).symm.trans ((congrArg (fun x : GSem nD τ sig × ℕ × Fin 3 => x.1.1.1) h).trans (dutyOf_dev d' i'))
  have hi : i = i' := dutyOf_kind i i' d d' (congrArg (fun x : GSem nD τ sig × ℕ × Fin 3 => (role x.1.2, x.2.2)) h)
  rw [hd, hi]

def allDuties : Finset (GSem nD τ sig × ℕ × Fin 3) := Finset.univ.map ⟨dutyOf, dutyOf_injective⟩

def u₀ : UU := (initOf (Pipeline.cells cfgs cellOf_inj) (Pipeline.launchToks cfgs cellOf_inj), initOf allCells allDuties)

section PerDevice
variable (c : Dev nD)

/-- The duties of a device's own cells, as they are made. -/
def made : sProp 𝕄 :=
  iprop((bigSep Finset.univ fun j : Fin 3 => dutyTok ER (barCell c) 0 j)
    ∗ (bigSep Finset.univ fun o : Fin 3 => dutyTok ER (sendCell c o) 0 0)
    ∗ (bigSep Finset.univ fun o : Fin 3 => dutyTok ER (recvCell c o) 0 0))

/-- Its cells' positions, and that they have reached their round. -/
def standing : sProp 𝕄 := bigSep Finset.univ fun k : Fin 7 => iprop(atPos ER (pcell (c, k)) 0 ∅ 0 ∗ reached ER (pcell (c, k)) 0)

def G : sProp 𝕄 :=
  iprop((bigSep Finset.univ fun k : Fin 7 => roundState ER (sched m) (pcell (c, k)) 0) ∗ standing c ∗ made c)

def G' : sProp 𝕄 := iprop(∃ K, ghost m K c)

end PerDevice

/-- The protocol's initial ghost state gives every device its part. -/
theorem fund_all : BI.own (ER (initOf allCells allDuties)) ⊢ (|==> bigSep Finset.univ (G m) : sProp 𝕄) := by
  have hC (Φ : GSem nD τ sig → sProp 𝕄) : bigSep allCells Φ = bigSep Finset.univ fun c : Dev nD => bigSep Finset.univ fun k : Fin 7 => Φ (pcell (c, k)) := by
    unfold allCells; rw [bigSep_map, bigSep_univ_prod]; rfl
  have hD : bigSep allDuties (fun x => (dutyTok ER x.1 x.2.1 x.2.2 : sProp 𝕄)) = bigSep Finset.univ fun c : Dev nD => made c := by
    unfold allDuties; rw [bigSep_map, bigSep_univ_prod]
    refine bigSep_congr fun c _ => ?_
    rw [bigSep_univ_prod, bigSep_fin3]; rfl
  have hF := Rounds.fund ER (sched m) allCells allDuties
  rw [hC, hC, hC, hD] at hF
  have hG : bigSep Finset.univ (G m) = iprop((bigSep Finset.univ fun c : Dev nD => bigSep Finset.univ fun k : Fin 7 => roundState ER (sched m) (pcell (c, k)) 0)
      ∗ ((bigSep Finset.univ fun c : Dev nD => bigSep Finset.univ fun k : Fin 7 => atPos ER (pcell (c, k)) 0 ∅ 0)
        ∗ (bigSep Finset.univ fun c : Dev nD => bigSep Finset.univ fun k : Fin 7 => reached ER (pcell (c, k)) 0)) ∗ bigSep Finset.univ fun c : Dev nD => made c) := by
    unfold G standing
    simp only [bigSep_sep']
  rw [hG]
  have hs : ∀ A B C D : sProp 𝕄, iprop(A ∗ B ∗ C ∗ D) ⊢ iprop(A ∗ (C ∗ B) ∗ D) := fun A B C D => by
    iintro ⟨Hst, Hr, Hat, Htok⟩
    isplitl [Hst]; · iexact Hst
    isplitr [Htok]
    · isplitl [Hat] <;> iassumption
    iexact Htok
  exact BIBase.Entails.trans hF (BI.bupd_mono (hs _ _ _ _))

omit [FloatOps F] in
theorem ownSems0_list (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  rw [Pipeline.ownSems0_eq_of_list c osem [0, 1, 2, 3, 4, 5] (by decide) (by decide)]; rfl

omit [FloatOps F] in
theorem unscopedSems0_list (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- A device's semaphores at zero are its seven cells' counters. -/
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (pcell (c, k)) 0 : sProp 𝕄) := by
  rw [ownSems0_list, unscopedSems0_list, bigSep_fin7]
  iintro ⟨H, HB⟩
  isplitl [HB]; · iexact HB
  iexact H

/-- Each device's cells get their invariants; -/
theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (pcell (c, k)))) ∗ standing c ∗ made c) := by
  have hinv : iprop((bigSep Finset.univ fun k : Fin 7 => semVal (pcell (c, k)) 0) ∗ bigSep Finset.univ fun k : Fin 7 => roundState ER (sched m) (pcell (c, k)) 0)
      ⊢ (|={Set.univ}=> bigSep Finset.univ fun k => iprop(∃ κ : ℕ, cellInv ER (sched m) κ (pcell (c, k))) : sProp 𝕄) := by
    rw [← bigSep_sep']
    exact (bigSep_mono fun k _ => (Rounds.body_intro ER (sched m) (pcell (c, k))).trans inv_alloc).trans (bigSep_fupd _ _)
  unfold G
  iintro ⟨Hos, Hus, Hst, Hrest⟩
  ihave Hv := (sems_cells (F := F) c) $$ [Hos Hus]
  · isplitl [Hos] <;> iassumption
  imod hinv $$ [Hv Hst] with Hinv
  · isplitl [Hv] <;> iassumption
  imodintro
  isplitl [Hinv] <;> iassumption

omit [FloatOps F] in
/-- the duties go to the devices that pay them. -/
theorem dealt : (bigSep Finset.univ fun c : Dev nD => (made c : sProp 𝕄)) ⊢ bigSep Finset.univ fun c : Dev nD => dues c := by
  have h (o : Fin 3) (Φ : Dev nD → sProp 𝕄) : bigSep Finset.univ Φ = bigSep Finset.univ fun c => Φ (fwd c o) := bigSep_univ_equiv (hop o) Φ
  unfold made dues
  simp only [bigSep_fin3, bigSep_sep']
  rw [h 2 (fun c => dutyTok ER (barCell c) 0 0), h 1 (fun c => dutyTok ER (barCell c) 0 1), h 0 (fun c => dutyTok ER (barCell c) 0 2),
    h 0 (fun c => dutyTok ER (recvCell c 0) 0 0), h 1 (fun c => dutyTok ER (recvCell c 1) 0 0), h 2 (fun c => dutyTok ER (recvCell c 2) 0 0)]

theorem regroup :
    (bigSep Finset.univ fun c : Dev nD => iprop((bigSep Finset.univ fun k => iprop(∃ κ : ℕ, cellInv ER (sched m) κ (pcell (c, k)))) ∗ standing c ∗ made c) : sProp 𝕄)
      ⊢ bigSep Finset.univ (G' m) := by
  have hst : (bigSep Finset.univ fun c : Dev nD => (standing c : sProp 𝕄))
      = iprop((bigSep Finset.univ fun c : Dev nD => places c) ∗ bigSep Finset.univ fun ck : Dev nD × Fin 7 => reached ER (pcell ck) 0) := by
    rw [bigSep_univ_prod, ← bigSep_sep']
    refine bigSep_congr fun c _ => ?_
    unfold standing
    rw [bigSep_sep']
    congr 1
    rw [bigSep_fin7]; rfl
  rw [bigSep_sep', bigSep_sep', hst, ← bigSep_univ_prod (fun ck : Dev nD × Fin 7 => iprop(∃ κ : ℕ, cellInv ER (sched m) κ (pcell ck)))]
  iintro ⟨HI, ⟨Hpl, #HR⟩, Hmade⟩
  ihave HK := (BI.bigSep_exists_pi Finset.univ (fun (ck : Dev nD × Fin 7) (κ : ℕ) => (cellInv ER (sched m) κ (pcell ck) : sProp 𝕄))) $$ HI
  icases HK with ⟨%K, #HI⟩
  ihave Hdues := (dealt (F := F)) $$ Hmade
  have hg : ∀ c ∈ (Finset.univ : Finset (Dev nD)), iprop(records m K ∗ (places c ∗ dues c)) ⊢ G' m c := fun c _ => by
    unfold G' ghost
    iintro H; iexists K; iexact H
  have hall : iprop(records m K ∗ bigSep Finset.univ fun c : Dev nD => iprop(places c ∗ dues c)) ⊢ bigSep Finset.univ (G' m) :=
    BI.bigSep_with_persistent hg
  iapply hall
  isplitr
  · unfold records; isplitl; · iexact HI
    iexact HR
  rw [bigSep_sep']
  isplitl [Hpl] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (regroup m))

/-! ## The credit a device may wait with -/

/-- A family of cells, one for each device. -/
theorem sum_family (cell : Dev nD → GSem nD τ sig) (hinj : ∀ a b, cell a = cell b → a = b) (o : Fin 3) (n : ℕ) (c : Dev nD) :
    ∑ d : Dev nD, (tallyAt (cell (fwd d o)) () n : CellTallies nD τ sig Unit) (cell c) () = n := by
  rw [Finset.sum_eq_single (fwd c o.rev)]
  · rw [fwd_rev_fwd, tallyAt_apply, if_pos ⟨rfl, rfl⟩]
  · intro d _ hd
    rw [tallyAt_apply, if_neg]
    rintro ⟨h, -⟩
    exact hd (by rw [hinj _ _ h, fwd_fwd_rev])
  · intro h; exact absurd (Finset.mem_univ _) h

theorem sum_other (cell : Dev nD → GSem nD τ sig) (o : Fin 3) (n : ℕ) (g : GSem nD τ sig) (h : ∀ d, g ≠ cell d) :
    ∑ d : Dev nD, (tallyAt (cell (fwd d o)) () n : CellTallies nD τ sig Unit) g () = 0 :=
  Finset.sum_eq_zero fun d _ => by rw [tallyAt_apply, if_neg fun h' => h _ h'.1]

theorem sum_owes₀ (g : GSem nD τ sig) : ∑ d : Dev nD, owes₀ d g ()
    = (∑ d : Dev nD, (tallyAt (recvCell (fwd d 2) 2) () N : CellTallies nD τ sig Unit) g ())
      + (∑ d : Dev nD, (tallyAt (recvCell (fwd d 0) 0) () N : CellTallies nD τ sig Unit) g ())
      + (∑ d : Dev nD, (tallyAt (recvCell (fwd d 1) 1) () N : CellTallies nD τ sig Unit) g ())
      + (∑ d : Dev nD, (tallyAt (barCell (fwd d 2)) () 1 : CellTallies nD τ sig Unit) g ())
      + (∑ d : Dev nD, (tallyAt (barCell (fwd d 1)) () 1 : CellTallies nD τ sig Unit) g ())
      + (∑ d : Dev nD, (tallyAt (barCell (fwd d 0)) () 1 : CellTallies nD τ sig Unit) g ()) := by
  simp only [← Finset.sum_add_distrib]
  rfl

theorem dev_of {sm sm' : SemLoc sig} {a b : Dev nD} (h : (((a : Thread nD τ), sm) : GSem nD τ sig) = ((b : Thread nD τ), sm')) : a = b :=
  congrArg (fun g : GSem nD τ sig => g.1.1) h
theorem sem_of {sm sm' : SemLoc sig} {a b : Dev nD} (h : (((a : Thread nD τ), sm) : GSem nD τ sig) = ((b : Thread nD τ), sm')) : role sm = role sm' :=
  congrArg (fun g : GSem nD τ sig => role g.2) h
theorem recv_ne_bar (c d : Dev nD) (o : Fin 3) : recvCell c o ≠ barCell d := fun h => by
  have := sem_of h; rw [role_recv, role_bar] at this; cases this
theorem recv_ne_recv {o o' : Fin 3} (h : o ≠ o') (c d : Dev nD) : recvCell c o ≠ recvCell d o' := fun h' => by
  have := sem_of h'; rw [role_recv, role_recv] at this; exact h (by injection this)

theorem launch_bar (c : Dev nD) :
    tallyOn (barCell c) (launchCredit (Pipeline.owing owes₀) 0 (barCell c)) = (tallyAt (barCell c) () 3 : CellTallies nD τ sig Unit) := by
  unfold tallyAt; refine congrArg _ (Finsupp.ext fun u => ?_); cases u
  have hb (o : Fin 3) := sum_family barCell (fun _ _ h => dev_of h) o 1 c
  have hr (o : Fin 3) := sum_other (fun d => recvCell d o) o N (barCell c) fun d => (recv_ne_bar d c o).symm
  rw [Pipeline.launchCredit_owing, Finsupp.single_eq_same, sum_owes₀, hb, hb, hb, hr 0, hr 1, hr 2]

theorem launch_recv (c : Dev nD) (o : Fin 3) :
    tallyOn (recvCell c o) (launchCredit (Pipeline.owing owes₀) 0 (recvCell c o)) = (tallyAt (recvCell c o) () N : CellTallies nD τ sig Unit) := by
  unfold tallyAt; refine congrArg _ (Finsupp.ext fun u => ?_); cases u
  have hb (o' : Fin 3) := sum_other barCell o' 1 (recvCell c o) fun d => recv_ne_bar c d o
  have hr (o' : Fin 3) : ∑ d : Dev nD, (tallyAt (recvCell (fwd d o') o') () N : CellTallies nD τ sig Unit) (recvCell c o) () = if o = o' then N else 0 := by
    by_cases h : o = o'
    · subst h; rw [if_pos rfl]; exact sum_family (fun d => recvCell d o) (fun _ _ h => dev_of h) o N c
    · rw [if_neg h]; exact sum_other (fun d => recvCell d o') o' N (recvCell c o) fun d => recv_ne_recv h c d
  rw [Pipeline.launchCredit_owing, Finsupp.single_eq_same, sum_owes₀, hb, hb, hb, hr, hr, hr]
  match o with
  | 0 => simp
  | 1 => simp
  | 2 => simp

omit [FloatOps F] in
theorem creds (c : Dev nD) : (Pipeline.launchCred owes₀ c : sProp 𝕄) ⊢ credits c := by
  unfold Pipeline.launchCred credits
  rw [← launch_bar, ← launch_recv c 0, ← launch_recv c 1, ← launch_recv c 2]
  refine (BI.bigSep_subset (t := ([SemLoc.reg barS, .dma (recvQ 0), .dma (recvQ 1), .dma (recvQ 2)] : List (SemLoc sig)).toFinset) (Finset.subset_univ _)).trans ?_
  rw [bigSep_eq_bigSepL_of_eq _ rfl (by decide)]
  exact BI.Entails.refl _

/-! ## Entering and leaving the region -/

theorem start_intro (c : Dev nD) :
    iprop(Pipeline.unscopedRestP Pipeline.Prefetch.none cfg0.spec c (fun b => m ((c : Thread nD τ).loc b)) ∗ levAts L lv
        ∗ Pipeline.launchCred owes₀ c ∗ prngReg c (ρ c) ∗ G' m c)
      ⊢ |={Set.univ}=> iprop(start m c ∗ emp) := by
  iintro ⟨-, HL, Hcr, -, HG⟩
  ihave Hc := (creds (F := F) c) $$ Hcr
  imodintro
  unfold start G'
  isplitl
  · isplitl [HG]; · iexact HG
    isplitl [Hc] <;> iassumption
  · iempintro

omit [FloatOps F] in
/-- The send buffer is the rows sent and the rest; the receive buffer is the slots and the rest. -/
theorem cut (c : Dev nD) : (Pipeline.scopedRest (Ix := Unit) (Name := ℕ) (U := UU) (Lvl := ℕ) (Val := Elt F) cfg0.spec c : sProp 𝕄)
    ⊢ iprop(rowsX c ∗ slotsX c ∗ gatesX c ∗ restX c) := by
  have h0 := Ring.fam_split_ex (Ix := Unit) (Name := ℕ) (U := UU) (Lvl := ℕ) (Val := Elt F) (ℓ := (c : Thread nD τ).loc cc0_scratch0) (sendS c) (sendS_disjoint c) (q := fullShare)
  have h2 := Ring.fam_split_ex (Ix := Unit) (Name := ℕ) (U := UU) (Lvl := ℕ) (Val := Elt F) (ℓ := (c : Thread nD τ).loc cc0_scratch2) slotS slotS_disjoint (q := fullShare)
  rw [bigSep_fin3] at h0 h2
  rw [scopedRest0_eq]
  unfold rowsX slotsX gatesX restX rowsP slotP
  iintro ⟨H0, H1, H2⟩
  ihave H0 := h0 $$ H0
  ihave H2 := h2 $$ H2
  icases H0 with ⟨H0, H0r⟩
  icases H2 with ⟨H2, H2r⟩
  isplitl [H0]; · iexact H0
  isplitl [H2]; · iexact H2
  isplitl [H1]; · iexact H1
  isplitl [H0r] <;> iassumption

omit [FloatOps F] in
theorem joined (c : Dev nD) : iprop(rowsX c ∗ slotsX c ∗ gatesX c ∗ restX c)
    ⊢ (Pipeline.scopedRest (Ix := Unit) (Name := ℕ) (U := UU) (Lvl := ℕ) (Val := Elt F) cfg0.spec c : sProp 𝕄) := by
  rw [scopedRest0_eq]
  unfold rowsX slotsX gatesX restX rowsP slotP
  iintro ⟨⟨⟨%f0, H0⟩, H0'⟩, ⟨⟨%f2, H2⟩, H2'⟩, H1, H0r, H2r⟩
  have h0 := Ring.fam_join (Ix := Unit) (Name := ℕ) (U := UU) (Lvl := ℕ) (Val := Elt F) (ℓ := (c : Thread nD τ).loc cc0_scratch0) (sendS c) (sendS_disjoint c) (q := fullShare) f0
  have h2 := Ring.fam_join (Ix := Unit) (Name := ℕ) (U := UU) (Lvl := ℕ) (Val := Elt F) (ℓ := (c : Thread nD τ).loc cc0_scratch2) slotS slotS_disjoint (q := fullShare) f2
  rw [bigSep_fin3] at h0 h2
  isplitl [H0 H0' H0r]
  · iapply h0
    isplitr [H0r]
    · isplitl [H0]; · iexists f0; iexact H0
      iexact H0'
    iexact H0r
  isplitl [H1]; · iexact H1
  iapply h2
  isplitr [H2r]
  · isplitl [H2]; · iexists f2; iexact H2
    iexact H2'
  iexact H2r

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (cut c); iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_list, unscopedSems0_list]
  unfold Φ₁ zeros
  iintro ⟨⟨Hz, HzB⟩, Hr⟩
  isplitl [HzB]; · iexact HzB
  isplitl [Hz]; · iexact Hz
  iapply (joined c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run of the program -/

/-- What a window's array holds after the run. -/
def finalA (c : Dev nD) (w : Fin cfg0.W) : Buf (Elt F) ((cfg0.win w).arr.view.loc (c : Thread nD τ)) := (dats m ρ 0 c).arrAt w cfg0.N

/-- From any memory with all counters at zero, every weakly fair execution on the four devices ends, each window's array
    holds its final contents and every counter is at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owes₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Dispatch

end
-- ==== Proof.Frames.lean ====
/-
What the run of the dispatch kernel leaves in its arrays: the arguments as they were, the result at the sum of the
four devices' contributions; and the frames of the three programs.
-/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 16384

noncomputable section

namespace Cert.Dispatch

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The result's only block, read back from the array after the run, is what the body stored. -/
theorem final_block (c : Dev nD) : (win0_4.blk (0 : Fin 1)).view.read (Elt F) (finalA m ρ c (4 : Fin 5)) = outAt m c := by
  unfold finalA
  rw [show cfg0.N = ((0 : Fin 1) : Fin cfg0.N).val + 1 from rfl, (dats m ρ 0 c).arrAt_succ (4 : Fin 5) (0 : Fin 1),
    show (cfg0.win (4 : Fin 5)).flush (0 : Fin 1) = true from by decide, if_pos rfl]
  exact View.read_write_univ _ _

/-- That block is the whole array. -/
theorem final_result (c : Dev nD) : (finalA m ρ c (4 : Fin 5) : main_v1.ty.Contents (Elt F)) = outAt m c := by
  have hz : (fun a => (win0_4.index (0 : Fin 1)) a * main_v1.ty.shape.size a) = fun _ => 0 := funext fun a => by fin_cases a <;> decide
  exact (Memref.read_access_unit_zero (Elt F) main_v1 hz (fun a => by fin_cases a <;> decide) _).symm.trans (final_block m ρ c)

/-- After the run every device's result is the sum of the contributions, and its arguments are what they were. -/
theorem run_held : θ_run defs (onTc (τ := τ) (main (F := F))) (s₀ m ρ) (fun r => (∀ c : Dev nD,
    r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0) :=
  (θ_run defs _ _).mono (fun _ h => ⟨fun c => ⟨(h.1 c 4).trans (final_result m ρ c),
      (h.1 c 0).trans ((dats m ρ 0 c).arrAt_in 0 rfl _), (h.1 c 1).trans ((dats m ρ 0 c).arrAt_in 1 rfl _),
      (h.1 c 2).trans ((dats m ρ 0 c).arrAt_in 2 rfl _), (h.1 c 3).trans ((dats m ρ 0 c).arrAt_in 3 rfl _)⟩, h.2⟩)
    (run_main m ρ)

/-- The part of it that a frame states. -/
theorem run_kept : θ_run defs (onTc (τ := τ) (main (F := F))) (s₀ m ρ) (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0) :=
  (θ_run defs _ _).mono (fun _ h => ⟨fun c => (h.1 c).2, h.2⟩) (run_held m ρ)

/-- The kernel and its reading at exact floats are the same text: their tables of kernel bodies agree, -/
theorem same_bodies : Cert.Kernel.defs₀ (F := F) = Cert.KernelIdeal.defs₀ := by
  unfold Cert.Kernel.defs₀ Cert.KernelIdeal.defs₀
  refine congrArg Defs.onTc (funext fun ℓ => ?_)
  match ℓ with
  | 0 => rfl

/-- and so do the tables the programs run with. -/
theorem same_table : Cert.Kernel.defs (F := F) = Cert.KernelIdeal.defs := congrArg (Pipeline.defs Cert.KernelIdeal.pcfgs) same_bodies

/-- The kernel's frame: it runs at the machine's floats, leaves its arguments alone and every counter at zero. -/
theorem frame_kernel : Cert.quiescent_Kernel := fun m ρ _ => by
  have h := run_kept (F := Bits) m ρ
  rw [← same_table] at h
  exact h

/-- The same of its reading at exact floats. -/
theorem frame_ideal : Cert.quiescent_KernelIdeal := fun m ρ _ => run_kept (F := Ideal) m ρ

/-- The reference's frame; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Dispatch

end
-- ==== Proof.Count.lean ====
/-
Counting tokens by their route, once as a sum of ones at exact floats and once in 32-bit words.
-/
module

public import Idealize.ShloMosaic.PureOps.Ideal
public import Idealize.ShloMosaic.Lib.Pointwise
public import Idealize.ShloMosaic.Lib.IndicatorCount
public import Idealize.ShloMosaic.Lib.WordCmp

@[expose] public section

set_option maxRecDepth 16384

noncomputable section

namespace Cert.Dispatch

open Idealize.ShloMosaic

/-- How many tokens before token `n` have its route. -/
def before (r : Fin 256 → BitVec 32) (n : Fin 256) : ℕ := (Finset.univ.filter fun k => r k = r n ∧ k < n).card

/-- The tokens up to and including `n` that have its route are those before it, and itself. -/
theorem upTo_eq (r : Fin 256 → BitVec 32) (n : Fin 256) :
    (Finset.univ.filter fun k => k ≤ n ∧ r k = r n).card = before r n + 1 := by
  have h : (Finset.univ.filter fun k => k ≤ n ∧ r k = r n) = insert n (Finset.univ.filter fun k => r k = r n ∧ k < n) := by
    ext k
    simp only [Finset.mem_filter, Finset.mem_univ, true_and, Finset.mem_insert]
    constructor
    · rintro ⟨hk, hr⟩
      rcases hk.lt_or_eq with h | h
      · exact Or.inr ⟨hr, h⟩
      · exact Or.inl h
    · rintro (rfl | ⟨hr, hk⟩)
      · exact ⟨le_rfl, rfl⟩
      · exact ⟨hk.le, hr⟩
  rw [h, Finset.card_insert_of_notMem (by simp)]; rfl

theorem before_lt (r : Fin 256 → BitVec 32) (n : Fin 256) : before r n < 2 ^ 31 :=
  lt_of_le_of_lt (Finset.card_le_univ _) (by rw [Fintype.card_fin]; decide)

/-- A bit widened to 32 bits and read as a float is one or zero. -/
theorem flag (b : BitVec 1) : (FloatOps.sitofp (F := Ideal) .f32 (b.setWidth 32) : EReal) = if b = 1#1 then 1 else 0 := by
  show (((b.setWidth 32).toInt : ℝ) : EReal) = _
  rcases BitVec.eq_zero_or_eq_one b with rfl | rfl <;> simp

theorem bit_iff (p : Prop) [Decidable p] : BitVec.ofBool (decide p) = 1#1 ↔ p := by by_cases h : p <;> simp [h]

theorem eq_bit (a b : BitVec 32) : IntOp.cmpi .eq a b = 1#1 ↔ a = b := by
  show BitVec.ofBool (a == b) = 1#1 ↔ a = b
  rw [← beq_iff_eq (a := a)]
  cases a == b <;> decide

theorem andi_bit (a b : BitVec 1) : IntOp.andi a b = 1#1 ↔ a = 1#1 ∧ b = 1#1 := by
  show a &&& b = 1#1 ↔ _
  revert a b; decide

/-- A count of earlier tokens, as a word, compares with 25 as the count does. -/
theorem before_word (r : Fin 256 → BitVec 32) (n : Fin 256) :
    IntOp.cmpi .slt (BitVec.ofNat 32 (before r n)) 25#32 = 1#1 ↔ before r n < 25 := by
  have h := before_lt r n
  rw [show (25#32 : BitVec 32) = BitVec.ofNat 32 25 from rfl]
  simp (disch := omega) only [hlo_ix]

/-- The pattern `0x41C80000` is twenty-five. -/
theorem twentyFive : Ideal.ofBits .f32 0x41C80000#32 = ((25 : ℝ) : EReal) := by
  simp [Ideal.ofBits, Ideal.ieee, -EReal.coe_mul]; norm_num

/-- A sum of ones at exact floats is a count. -/
theorem sum_flags (p : Fin 256 → Prop) [DecidablePred p] : (∑ k, if p k then (1 : EReal) else 0) = ((((Finset.univ.filter p).card : ℕ) : ℝ) : EReal) := by
  rw [Finset.sum_ite, Finset.sum_const_zero, add_zero, Finset.sum_const, EReal.nsmul_eq_mul, mul_one]; rfl

theorem count_le (k : ℕ) : ((((k : ℕ) : ℝ) : EReal) ≤ ((25 : ℝ) : EReal)) ↔ k ≤ 25 := by
  rw [EReal.coe_le_coe_iff]; norm_num

end Cert.Dispatch

end
-- ==== Proof.Summands.lean ====
/-
What one device contributes to a token's row, at exact floats.
-/
module

public import proofs.«01_k».proof.Proof.Geometry
public import proofs.«01_k».proof.Proof.Count

@[expose] public section

set_option maxRecDepth 16384

noncomputable section

namespace Cert.Dispatch

open Cert.KernelIdeal Cert.KernelIdeal.Gen
open Idealize.ShloMosaic Idealize.ShloMosaic.TcCoe

/-- The route of each token. -/
def route (idx : Vec Ideal S256x1 .i32) (n : Fin 256) : BitVec 32 := idx (ix2 n 0)

/-- Device `c`'s column `l` stands for expert `2 c + l`. -/
theorem expert_word : ∀ (c : Dev nD) (l : Fin 2),
    IntOp.addi (Scalar.muli (2#32) (Scalar.remsi (Scalar.divsi (Dev.word c) 1#32) 4#32)) (BitVec.ofNat 32 l.val) = BitVec.ofNat 32 (2 * c.val + l.val) := by
  decide

theorem row_bit (n k : Fin 256) : IntOp.cmpi .sge (BitVec.ofNat 32 n.val) (BitVec.ofNat 32 k.val) = 1#1 ↔ k ≤ n := by
  have hn := n.isLt
  have hk := k.isLt
  simp (disch := omega) only [hlo_ix]
  exact Iff.rfl

/-- Gate `l` of token `n` on device `c` is one exactly when the token goes to the device's expert `l` and fewer than 25
    tokens went there before it. -/
theorem gates_apply (c : Dev nD) (idx : Vec Ideal S256x1 .i32) (n : Fin 256) (l : Fin 2) :
    gates (F := Ideal) c idx (ix2 n l) = if route idx n = BitVec.ofNat 32 (2 * c.val + l.val) ∧ before (route idx) n < 25 then (1 : EReal) else 0 := by
  unfold gates
  pointwise [Gen.k0_pay1]
  simp only [expert_word, flag, eq_bit, row_bit, bit_iff, twentyFive]
  have hs : (∑ k : Fin 256, (if k ≤ n then (1 : EReal) else 0) * (if idx (ix2 k 0) = BitVec.ofNat 32 (2 * c.val + l.val) then 1 else 0))
      = ∑ k : Fin 256, if k ≤ n ∧ route idx k = BitVec.ofNat 32 (2 * c.val + l.val) then (1 : EReal) else 0 :=
    Finset.sum_congr rfl fun k _ => by
      show _ * (if route idx k = _ then (1 : EReal) else 0) = _
      by_cases h : k ≤ n <;> by_cases h' : route idx k = BitVec.ofNat 32 (2 * c.val + l.val) <;> simp [h, h']
  simp only [hs, sum_flags, count_le]
  show (if route idx n = _ then (1 : EReal) else 0) * _ = _
  by_cases h : route idx n = BitVec.ofNat 32 (2 * c.val + l.val)
  · rw [← h, upTo_eq, if_pos rfl, one_mul]
    by_cases h' : before (route idx) n < 25
    · rw [if_pos (by omega), if_pos ⟨rfl, h'⟩]
    · rw [if_neg (by omega), if_neg (fun h => h' h.2)]
  · rw [if_neg h, zero_mul, if_neg (fun h' => h h'.1)]

/-- Token `r` of device `t`. -/
def tok (t : Dev nD) (r : Fin 64) : Fin 256 := ⟨64 * t.val + r.val, by have := t.isLt; have := r.isLt; simp only [nD] at *; omega⟩

theorem xRows_apply (x : Vec Ideal S256x128 .bf16) (t : Dev nD) (r : Fin 64) (d : Fin 128) : xRows x t (ix2 r d) = x (ix2 (tok t r) d) := by
  unfold xRows
  rw [View.readAt_eq_ld]
  pointwise [row0]
  rfl

theorem gRows_apply (g : Vec Ideal S256x2 .bf16) (t : Dev nD) (r : Fin 64) (l : Fin 2) : gRows g t (ix2 r l) = g (ix2 (tok t r) l) := by
  unfold gRows
  rw [View.readAt_eq_ld]
  pointwise [row0]
  rfl

theorem wFst_apply (w : Vec Ideal S2x128x256 .bf16) (d : Fin 128) (o : Fin 256) : wFst w (ix3 0 d o) = w (ix3 0 d o) := by
  unfold wFst
  rw [View.readAt_eq_ld]
  pointwise
  rfl

theorem wSnd_apply (w : Vec Ideal S2x128x256 .bf16) (d : Fin 128) (o : Fin 256) : wSnd w (ix3 0 d o) = w (ix3 1 d o) := by
  unfold wSnd
  rw [View.readAt_eq_ld]
  pointwise
  rfl

/-- The contribution of device `s` to token `n`'s row: its two experts' products, each behind its gate. -/
def part (s : Dev nD) (x : Vec Ideal S256x128 .bf16) (idx : Vec Ideal S256x1 .i32) (w : Vec Ideal S2x128x256 .bf16) (n o : Fin 256) : EReal :=
  (∑ d : Fin 128, x (ix2 n d) * gates (F := Ideal) s idx (ix2 n 0) * w (ix3 0 d o))
    + ∑ d : Fin 128, x (ix2 n d) * gates (F := Ideal) s idx (ix2 n 1) * w (ix3 1 d o)

theorem chunk_apply (s t : Dev nD) (x : Vec Ideal S256x128 .bf16) (idx : Vec Ideal S256x1 .i32) (w : Vec Ideal S2x128x256 .bf16) (r : Fin 64) (o : Fin 256) :
    chunk (F := Ideal) s t x idx w (ix2 r o) = part s x idx w (tok t r) o := by
  unfold chunk
  pointwise [Gen.k0_pay2]
  simp only [xRows_apply, gRows_apply, wFst_apply, wSnd_apply]
  rfl

theorem own_apply (c : Dev nD) (x : Vec Ideal S256x128 .bf16) (idx : Vec Ideal S256x1 .i32) (w : Vec Ideal S2x128x256 .bf16) (r : Fin 64) (o : Fin 256) :
    own (F := Ideal) c x idx w (ix2 r o) = part c x idx w (tok c r) o := by
  unfold own
  pointwise [Gen.k0_pay6, Gen.k0_pay5]
  simp only [xRows_apply, gRows_apply, wFst_apply, wSnd_apply]
  rfl

end Cert.Dispatch

end
-- ==== Proof.Result.lean ====
/-
The reference's result, row by row: a kept token's row is its row of `x` times its expert's matrix, another's is zero.
-/
module

public import proofs.«01_k».proof.Proof.Gen.ReferenceIdeal.Run
public import proofs.«01_k».proof.Proof.Count

@[expose] public section

set_option maxRecDepth 16384

noncomputable section

namespace Cert.Dispatch

open Cert.ReferenceIdeal Cert.ReferenceIdeal.Gen
open Idealize.ShloMosaic Idealize.ShloMosaic.TcCoe

/-- Each token's number of earlier tokens with its route, as the reference counts it. -/
def tally (idx : Vec Ideal S256x1 .i32) : IVec S256 32 :=
  Host.reduce IntOp.addi
    (extui 32
      (andi
        (cmpi .eq
          (broadcastInDim S256x256 ![0, 1] bcast_S1x256_S256x256_0_1 (broadcastInDim S1x256 ![1] bcast_S256_S1x256_1 (shapeCast S256 idx shapeCasts_S256x1_S256)))
          (broadcastInDim S256x256 ![0, 1] bcast_S256x1_S256x256_0_1 (broadcastInDim S256x1 ![0] bcast_S256_S256x1_0 (shapeCast S256 idx shapeCasts_S256x1_S256))))
        (cmpi .slt
          (broadcastInDim S256x256 ![0, 1] bcast_S1x256_S256x256_0_1 (broadcastInDim S1x256 ![1] bcast_S256_S1x256_1 (iotaInDim S256 32 0)))
          (broadcastInDim S256x256 ![0, 1] bcast_S256x1_S256x256_0_1 (broadcastInDim S256x1 ![0] bcast_S256_S256x1_0 (iotaInDim S256 32 0)))))
      natLt_1_32)
    (constantI S_ 32 0#32) reducesTo_S256x256_S256_d1 h_S_

/-- Each token's row of `x` times the matrix its route, forced into range, names. -/
def product (x : Vec Ideal S256x128 .bf16) (idx : Vec Ideal S256x1 .i32) (w : Vec Ideal S8x128x256 .bf16) : FVec Ideal S256x256 .f32 :=
  Host.dotGeneral (F := Ideal) dot_S256x128_S256x128x256_S256x256_1_1_n_2_0_0 none (extf .f32 x bitsLt_bf16_f32)
    (Host.gather gather_S8x128x256_S256x1_S256x128x256_12_0_n_n_0_1_1128256 (extf .f32 w bitsLt_bf16_f32)
      (broadcastInDim S256x1 ![0] bcast_S256_S256x1_0 (shapeCast S256 idx shapeCasts_S256x1_S256)))

/-- The reference's result. -/
def result (x : Vec Ideal S256x128 .bf16) (idx : Vec Ideal S256x1 .i32) (w : Vec Ideal S8x128x256 .bf16) : FVec Ideal S256x256 .f32 :=
  select
    (broadcastInDim S256x256 ![0, 1] bcast_S256x1_S256x256_0_1 (broadcastInDim S256x1 ![0] bcast_S256_S256x1_0
      (andi
        (andi (cmpi .sge (shapeCast S256 idx shapeCasts_S256x1_S256) (broadcastInDim S256 ![] bcast_S_S256 (constantI S_ 32 0#32)))
          (cmpi .slt (shapeCast S256 idx shapeCasts_S256x1_S256) (broadcastInDim S256 ![] bcast_S_S256 (constantI S_ 32 8#32))))
        (cmpi .slt (tally idx) (broadcastInDim S256 ![] bcast_S_S256 (constantI S_ 32 25#32))))))
    (product x idx w) (broadcastInDim S256x256 ![] bcast_S_S256x256 (id (constant S_ .f32 0x00000000#32)))

/-- The tally counts the tokens before this one. -/
theorem tally_apply (idx : Vec Ideal S256x1 .i32) (n : Fin 256) : tally idx (ix1 n) = BitVec.ofNat 32 (before (fun k => idx (ix2 k 0)) n) := by
  unfold tally
  pointwise
  refine (IndicatorCount.fold_addi_setWidth_eq_card _ _).trans (congrArg (BitVec.ofNat 32) ?_)
  refine congrArg Finset.card (Finset.filter_congr fun k _ => ?_)
  have hk := k.isLt
  have hn := n.isLt
  rw [andi_bit, eq_bit]
  simp (disch := omega) only [hlo_ix]
  exact Iff.rfl

/-- Reading the matrices at a column of positions: row `n` of the result is the matrix its position, held to `0 … 7`, names. -/
theorem gather_apply (w : S8x128x256.Idx → EReal) (p : IVec S256x1 32) (n : Fin 256) (d : Fin 128) (o : Fin 256) :
    Host.gather gather_S8x128x256_S256x1_S256x128x256_12_0_n_n_0_1_1128256 w p (ix3 n d o)
      = w (ix3 ⟨min (p (ix2 n 0)).toInt.toNat 7, by omega⟩ d o) := by
  refine congrArg w (funext fun a => Fin.ext ?_)
  match a with
  | ⟨0, _⟩ =>
    have hs : ∀ c, gather_S8x128x256_S256x1_S256x128x256_12_0_n_n_0_1_1128256.siIdx (ix3 n d o) c = ix2 n 0 := fun c => funext fun b => by
      match b with
      | ⟨0, _⟩ => rfl
      | ⟨1, _⟩ => exact Fin.ext (Nat.lt_one_iff.1 c.isLt)
    show gather_S8x128x256_S256x1_S256x128x256_12_0_n_n_0_1_1128256.start (ix3 n d o) p 0 + 0 + 0 = min (p (ix2 n 0)).toInt.toNat 7
    unfold GatherDims.start
    rw [dif_pos (by decide), hs]
    rfl
  | ⟨1, _⟩ => exact (Nat.zero_add _)
  | ⟨2, _⟩ => exact (Nat.zero_add _)

/-- A token with an expert's number as its route has, as its product, its row of `x` times that expert's matrix. -/
theorem product_apply (x : Vec Ideal S256x128 .bf16) (idx : Vec Ideal S256x1 .i32) (w : Vec Ideal S8x128x256 .bf16) (n o : Fin 256) (e : Fin 8)
    (he : idx (ix2 n 0) = BitVec.ofNat 32 e.val) : product x idx w (ix2 n o) = ∑ d : Fin 128, (x (ix2 n d) * w (ix3 e d o) : EReal) := by
  unfold product
  pointwise
  have hp : (broadcastInDim S256x1 ![0] bcast_S256_S256x1_0 (shapeCast S256 idx shapeCasts_S256x1_S256)) (ix2 n 0) = BitVec.ofNat 32 e.val := by
    pointwise
    exact he
  have hc : ∀ e : Fin 8, min (BitVec.ofNat 32 e.val).toInt.toNat 7 = e.val := by decide
  refine Finset.sum_congr rfl fun d _ => ?_
  rw [gather_apply]
  simp only [hp, hc]
  rfl

/-- A route is an expert's number exactly when it is at least 0 and below 8. -/
theorem expert_iff (b : BitVec 32) : (IntOp.cmpi .sge b 0#32 = 1#1 ∧ IntOp.cmpi .slt b 8#32 = 1#1) ↔ ∃ e : Fin 8, b = BitVec.ofNat 32 e.val := by
  constructor
  · rintro ⟨h0, h8⟩
    have h0' : BitVec.ofBool ((0#32).sle b) = 1#1 := h0
    have h8' : BitVec.ofBool (b.slt 8#32) = 1#1 := h8
    simp only [BitVec.sle, BitVec.slt, bit_iff] at h0' h8'
    refine ⟨⟨b.toNat, ?_⟩, by simp⟩
    simp [BitVec.toInt] at h0' h8'
    omega
  · rintro ⟨e, rfl⟩
    revert e
    decide

/-- What the reference keeps a token by. -/
theorem keep_iff (r : Fin 256 → BitVec 32) (n : Fin 256) :
    IntOp.andi (IntOp.andi (IntOp.cmpi .sge (r n) 0#32) (IntOp.cmpi .slt (r n) 8#32)) (IntOp.cmpi .slt (BitVec.ofNat 32 (before r n)) 25#32) = 1#1
      ↔ (∃ e : Fin 8, r n = BitVec.ofNat 32 e.val) ∧ before r n < 25 := by
  rw [andi_bit, andi_bit, expert_iff, before_word]

/-- A token kept by its expert `e` has its row of `x` times that expert's matrix. -/
theorem result_kept (x : Vec Ideal S256x128 .bf16) (idx : Vec Ideal S256x1 .i32) (w : Vec Ideal S8x128x256 .bf16) (n o : Fin 256) (e : Fin 8)
    (he : idx (ix2 n 0) = BitVec.ofNat 32 e.val) (hb : before (fun k => idx (ix2 k 0)) n < 25) :
    result x idx w (ix2 n o) = ∑ d : Fin 128, (x (ix2 n d) * w (ix3 e d o) : EReal) := by
  unfold result
  pointwise
  rw [product_apply x idx w n o e he, tally_apply, (keep_iff (fun k => idx (ix2 k 0)) n).2 ⟨⟨e, he⟩, hb⟩]
  rfl

/-- Every other token has a row of zeros. -/
theorem result_dropped (x : Vec Ideal S256x128 .bf16) (idx : Vec Ideal S256x1 .i32) (w : Vec Ideal S8x128x256 .bf16) (n o : Fin 256)
    (h : ¬ ((∃ e : Fin 8, idx (ix2 n 0) = BitVec.ofNat 32 e.val) ∧ before (fun k => idx (ix2 k 0)) n < 25)) :
    result x idx w (ix2 n o) = (0 : EReal) := by
  unfold result
  pointwise
  rw [tally_apply, (BitVec.eq_zero_or_eq_one _).resolve_right (fun h' => h ((keep_iff (fun k => idx (ix2 k 0)) n).1 h'))]
  exact Ideal.ofBits_zero_f32

end Cert.Dispatch

end
-- ==== Proof.Equation.lean ====
/-
The kernel's result is the reference's: the four devices' contributions to a token's row add up to the row.
-/
module

public import proofs.«01_k».proof.Proof.Frames
public import proofs.«01_k».proof.Proof.Summands
public import proofs.«01_k».proof.Proof.Result
public import Idealize.ShloMosaic.Lib.Layout

@[expose] public section

set_option maxRecDepth 16384

noncomputable section

namespace Cert.Dispatch

open Cert.KernelIdeal Cert.KernelIdeal.Gen
open Cert.ReferenceIdeal (S8x128x256)
open Idealize.ShloMosaic Idealize.ShloMosaic.TcCoe

/-- Device `s`'s matrices: experts `2 s` and `2 s + 1`. -/
def pair (W : Vec Ideal S8x128x256 .bf16) (s : Dev nD) : Vec Ideal S2x128x256 .bf16 := Layout.block ⟨3, ![2, 128, 256]⟩ ⟨3, ![8, 128, 256]⟩ 0 4 s W

/-- Expert `l` of device `s`. -/
def expert (s : Dev nD) (l : Fin 2) : Fin 8 := ⟨2 * s.val + l.val, by have := s.isLt; have := l.isLt; simp only [nD] at *; omega⟩

theorem pair_apply (W : Vec Ideal S8x128x256 .bf16) (s : Dev nD) (l : Fin 2) (d : Fin 128) (o : Fin 256) :
    pair W s (ix3 l d o) = W (ix3 (expert s l) d o) := by
  refine congrArg W (funext fun a => Fin.ext ?_)
  match a with
  | ⟨0, _⟩ => exact congrArg (· + l.val) (Nat.mul_comm _ _)
  | ⟨1, _⟩ => rfl
  | ⟨2, _⟩ => rfl

/-- Device `c`'s 64 rows of an array of all tokens' rows. -/
def rows (v : FVec Ideal S256x256 .f32) (c : Dev nD) : FVec Ideal S64x256 .f32 := Layout.block ⟨2, ![64, 256]⟩ ⟨2, ![256, 256]⟩ 0 4 c v

/-- Row `r` of block `c` of an array of rows is row `tok c r` of the array. -/
theorem rows_apply (v : FVec Ideal S256x256 .f32) (c : Dev nD) (r : Fin 64) (o : Fin 256) :
    rows v c (ix2 r o) = v (ix2 (tok c r) o) := by
  refine congrArg v (funext fun a => Fin.ext ?_)
  match a with
  | ⟨0, _⟩ => exact congrArg (· + r.val) (Nat.mul_comm _ _)
  | ⟨1, _⟩ => rfl

/-- A row of `x` behind a gate, times a column: the product when the gate is open, zero when it is shut. -/
theorem gated (p : Prop) [Decidable p] (f g : Fin 128 → EReal) :
    (∑ d, f d * (if p then (1 : EReal) else 0) * g d) = if p then ∑ d, f d * g d else 0 := by
  by_cases h : p
  · simp only [if_pos h, mul_one]
  · simp only [if_neg h, mul_zero, zero_mul, Finset.sum_const_zero]

/-- A device's contribution to a token's row, over the whole array of matrices. -/
theorem part_pair (s : Dev nD) (x : Vec Ideal S256x128 .bf16) (idx : Vec Ideal S256x1 .i32) (W : Vec Ideal S8x128x256 .bf16) (n o : Fin 256) :
    part s x idx (pair W s) n o = ∑ l : Fin 2, if route idx n = BitVec.ofNat 32 (expert s l).val ∧ before (route idx) n < 25
      then ∑ d : Fin 128, (x (ix2 n d) * W (ix3 (expert s l) d o) : EReal) else 0 := by
  unfold part
  simp only [gates_apply, pair_apply, gated, Fin.sum_univ_two]
  rfl

/-- Devices and their two columns name the experts, each once. -/
theorem sum_experts (f : Fin 8 → EReal) : (∑ s : Dev nD, ∑ l : Fin 2, f (expert s l)) = ∑ e, f e := by
  rw [← Fintype.sum_prod_type']
  exact Fintype.sum_bijective (fun q : Dev nD × Fin 2 => expert q.1 q.2) (by decide) _ _ fun _ => rfl

/-- Distinct experts have distinct words. -/
theorem word_inj : ∀ e e' : Fin 8, BitVec.ofNat 32 e.val = BitVec.ofNat 32 e'.val → e' = e := by decide

/-- All devices' contributions to a token's row add up to the reference's row. -/
theorem sum_parts (x : Vec Ideal S256x128 .bf16) (idx : Vec Ideal S256x1 .i32) (W : Vec Ideal S8x128x256 .bf16) (n o : Fin 256) :
    (∑ s : Dev nD, part s x idx (pair W s) n o) = result x idx W (ix2 n o) := by
  simp only [part_pair]
  rw [sum_experts fun e => if route idx n = BitVec.ofNat 32 e.val ∧ before (route idx) n < 25 then ∑ d : Fin 128, (x (ix2 n d) * W (ix3 e d o) : EReal) else 0]
  by_cases h : (∃ e : Fin 8, route idx n = BitVec.ofNat 32 e.val) ∧ before (route idx) n < 25
  · obtain ⟨⟨e, he⟩, hb⟩ := h
    rw [result_kept x idx W n o e he hb, Finset.sum_eq_single e]
    · rw [if_pos ⟨he, hb⟩]
    · intro e' _ hne
      exact if_neg fun h' => hne (word_inj e e' (he.symm.trans h'.1))
    · exact fun h' => absurd (Finset.mem_univ _) h'
  · rw [result_dropped x idx W n o h]
    exact Finset.sum_eq_zero fun e _ => if_neg fun h' => h ⟨⟨e, h'.1⟩, h'.2⟩

/-- A device's own term and the three it receives, in the order it adds them, are the terms of all devices. -/
theorem sum_hops (f : Dev nD → EReal) (c : Dev nD) : f c + f (fwd c 2) + f (fwd c 0) + f (fwd c 1) = ∑ s, f s := by
  refine (Fin.sum_univ_four (fun k : Fin 4 => f ((![c, fwd c 2, fwd c 0, fwd c 1] : Fin 4 → Dev nD) k))).symm.trans ?_
  exact Fintype.sum_bijective (![c, fwd c 2, fwd c 0, fwd c 1] : Fin 4 → Dev nD) (by revert c; decide) _ _ fun _ => rfl

section
variable (m : (ℓ : Loc nD τ sig) → Buf (Elt Ideal) ℓ)

/-- The one block of each array a device stages is the whole array. -/
theorem xAt_eq (c : Dev nD) : xAt m c = m ((c : Thread nD τ).loc main_arg0) :=
  have hz : (fun a => (win0_0.index (0 : Fin 1)) a * main_arg0.ty.shape.size a) = fun _ => 0 := funext fun a => by fin_cases a <;> decide
  Memref.read_access_unit_zero (Elt Ideal) main_arg0 hz (fun a => by fin_cases a <;> decide) _

theorem iAt_eq (c : Dev nD) : iAt m c = m ((c : Thread nD τ).loc main_arg2) :=
  have hz : (fun a => (win0_2.index (0 : Fin 1)) a * main_arg2.ty.shape.size a) = fun _ => 0 := funext fun a => by fin_cases a <;> decide
  Memref.read_access_unit_zero (Elt Ideal) main_arg2 hz (fun a => by fin_cases a <;> decide) _

theorem wAt_eq (c : Dev nD) : wAt m c = m ((c : Thread nD τ).loc main_arg3) :=
  have hz : (fun a => (win0_3.index (0 : Fin 1)) a * main_arg3.ty.shape.size a) = fun _ => 0 := funext fun a => by fin_cases a <;> decide
  Memref.read_access_unit_zero (Elt Ideal) main_arg3 hz (fun a => by fin_cases a <;> decide) _

/-- When every device holds the same tokens and routes, and its own pair of matrices, its result is its block of the
    reference's. -/
theorem outAt_eq (x : Vec Ideal S256x128 .bf16) (idx : Vec Ideal S256x1 .i32) (W : Vec Ideal S8x128x256 .bf16)
    (hx : ∀ c, xAt m c = x) (hi : ∀ c, iAt m c = idx) (hw : ∀ c, wAt m c = pair W c) (c : Dev nD) :
    outAt m c = rows (result x idx W) c := by
  funext j
  idx_vars j
  rw [rows_apply, ← sum_parts, ← sum_hops _ c]
  unfold outAt chunkAt total
  pointwise
  simp only [hx, hi, hw, own_apply, chunk_apply]

end

/-- The kernel's results are the blocks of the reference's. -/
theorem algebraic : Cert.algebraic_KernelIdeal_ReferenceIdeal := by
  intro m ρ m' ρ' _ hagree
  refine ⟨_, (θ_run defs _ _).mono (fun _ h c => ⟨(h.1 c).1.trans ?_, (h.1 c).2⟩) (run_held (F := Ideal) m ρ),
    (θ_run Cert.ReferenceIdeal.defs _ _).mono (fun _ h => h 0) (Cert.ReferenceIdeal.Value.run (F := Ideal) m' ρ')⟩
  exact outAt_eq m _ _ _ (fun c => (xAt_eq m c).trans (hagree c).1) (fun c => (iAt_eq m c).trans (hagree c).2.2.1)
    (fun c => (wAt_eq m c).trans (hagree c).2.2.2) c

end Cert.Dispatch

end
-- ==== Proof.lean ====
/-
The certificate of the dispatch kernel: the three programs' frames, and the equation of its results with the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equation

@[expose] public section

noncomputable section

namespace Cert.Proof

/-- The certificate. -/
theorem claim : Cert.Claim := ⟨Cert.Kernel.Gen.facts, Cert.KernelIdeal.Gen.facts, Cert.ReferenceIdeal.Gen.facts,
  Cert.Dispatch.frame_kernel, Cert.Dispatch.frame_ideal, Cert.Dispatch.frame_reference, trivial,
  Cert.Dispatch.algebraic⟩

end Cert.Proof

end
